-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x8192 : Shape := ⟨2, ![512, 8192]⟩
abbrev S512x8192x8 : Shape := ⟨3, ![512, 8192, 8]⟩
abbrev S512x64x128x8 : Shape := ⟨4, ![512, 64, 128, 8]⟩
abbrev S512x64x8x128 : Shape := ⟨4, ![512, 64, 8, 128]⟩
abbrev S64x8x64x128 : Shape := ⟨4, ![64, 8, 64, 128]⟩
abbrev S64x64x8x128 : Shape := ⟨4, ![64, 64, 8, 128]⟩
abbrev S3x32x8x128 : Shape := ⟨4, ![3, 32, 8, 128]⟩
abbrev S3 : Shape := ⟨1, ![3]⟩
abbrev S1x32x7x128 : Shape := ⟨4, ![1, 32, 7, 128]⟩
abbrev S32x7x128 : Shape := ⟨3, ![32, 7, 128]⟩
abbrev S1 : Shape := ⟨1, ![1]⟩
abbrev S_ : Shape := ⟨0, ![]⟩
abbrev S1x32x1x128 : Shape := ⟨4, ![1, 32, 1, 128]⟩
abbrev S32x128 : Shape := ⟨2, ![32, 128]⟩
abbrev S1x32x8x128 : Shape := ⟨4, ![1, 32, 8, 128]⟩
abbrev S32x8x128 : Shape := ⟨3, ![32, 8, 128]⟩

abbrev nBuf : Table → Nat
  | .hbm => 9
  | .local .scVector .vmem => 1
  | _ => 0

abbrev bufTy : (tb : Table) → Fin (nBuf tb) → BufTy
  | .hbm, ⟨0, _⟩ => ⟨S512x8192, .f32⟩
  | .hbm, ⟨1, _⟩ => ⟨S512x8192x8, .f32⟩
  | .hbm, ⟨2, _⟩ => ⟨S512x64x128x8, .f32⟩
  | .hbm, ⟨3, _⟩ => ⟨S512x64x8x128, .f32⟩
  | .hbm, ⟨4, _⟩ => ⟨S64x8x64x128, .f32⟩
  | .hbm, ⟨5, _⟩ => ⟨S64x64x8x128, .f32⟩
  | .hbm, ⟨6, _⟩ => ⟨S512x64x8x128, .f32⟩
  | .hbm, ⟨7, _⟩ => ⟨S512x64x128x8, .f32⟩
  | .hbm, ⟨8, _⟩ => ⟨S512x8192x8, .f32⟩
  | .local .scVector .vmem, ⟨0, _⟩ => ⟨S3x32x8x128, .f32⟩
  | _, _ => ⟨S512x8192, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v3_scv : Ref sig .scVector := ⟨.hbm, 5, rfl⟩
abbrev main_v1_scv : Ref sig .scVector := ⟨.hbm, 3, rfl⟩
abbrev main_v4_scv : Ref sig .scVector := ⟨.hbm, 6, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi v1 c0_i32
  let c0_i32_4 : BitVec 32 := 0#32
  let c0_i32_5 : BitVec 32 := 0#32
  let c0_i32_6 : BitVec 32 := 0#32
  ![v2.toNat, 0, 0, 0]
def k0_off2 (i : grid0.Coords) (c0_i32 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi v1 c0_i32
  let c0_i32_13 : BitVec 32 := 0#32
  let v14 : BitVec 1 := Scalar.cmpi .sgt v2 c0_i32_13
  let v15 : BitVec 32 := Scalar.extui v14
  let c0_i32_14 : BitVec 32 := 0#32
  let v16 : BitVec 1 := Scalar.cmpi .slt v2 c0_i32_14
  let v17 : BitVec 32 := Scalar.extui v16
  let v18 : BitVec 32 := Scalar.subi v15 v17
  let c8_i32 : BitVec 32 := 8#32
  let c0_i32_15 : BitVec 32 := 0#32
  let v19 : BitVec 1 := Scalar.cmpi .sgt c8_i32 c0_i32_15
  let v20 : BitVec 32 := Scalar.extui v19
  let c0_i32_16 : BitVec 32 := 0#32
  let v21 : BitVec 1 := Scalar.cmpi .slt c8_i32 c0_i32_16
  let v22 : BitVec 32 := Scalar.extui v21
  let v23 : BitVec 32 := Scalar.subi v20 v22
  let v24 : BitVec 1 := Scalar.cmpi .ne v18 v23
  let v25 : BitVec 32 := Scalar.remsi v2 c8_i32
  let c0_i32_17 : BitVec 32 := 0#32
  let v26 : BitVec 1 := Scalar.cmpi .ne v25 c0_i32_17
  let v27 : BitVec 1 := Scalar.andi v24 v26
  let v13 : BitVec 32 := Scalar.divsi v2 c8_i32
  let c1_i32_18 : BitVec 32 := 1#32
  let v28 : BitVec 32 := Scalar.subi v13 c1_i32_18
  let v29 : BitVec 32 := Scalar.select v27 v28 v13
  let c0_i32_30 : BitVec 32 := 0#32
  let c8_i32_19 : BitVec 32 := 8#32
  let c0_i32_20 : BitVec 32 := 0#32
  let v30 : BitVec 1 := Scalar.cmpi .eq c8_i32_19 c0_i32_20
  let c1_i32_21 : BitVec 32 := 1#32
  let v31 : BitVec 32 := Scalar.select v30 c1_i32_21 c8_i32_19
  let v32 : BitVec 32 := Scalar.remsi v2 v31
  let c0_i32_23 : BitVec 32 := 0#32
  let v34 : BitVec 1 := Scalar.cmpi .slt v32 c0_i32_23
  let c0_i32_24 : BitVec 32 := 0#32
  let v35 : BitVec 1 := Scalar.cmpi .slt v31 c0_i32_24
  let v36 : BitVec 1 := Scalar.xori v34 v35
  let c0_i32_22 : BitVec 32 := 0#32
  let v33 : BitVec 1 := Scalar.cmpi .ne v32 c0_i32_22
  let v37 : BitVec 1 := Scalar.andi v36 v33
  let v38 : BitVec 32 := Scalar.addi v32 v31
  let v39 : BitVec 32 := Scalar.select v37 v38 v32
  let c0_i32_31 : BitVec 32 := 0#32
  ![v29.toNat, 0, v39.toNat, 0]
def k0_off3 (i : grid0.Coords) (c0_i32_36 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v50 : BitVec 32 := Scalar.addi v1 c0_i32_36
  let c32_i32 : BitVec 32 := 32#32
  let c0_i32_42 : BitVec 32 := 0#32
  let c0_i32_43 : BitVec 32 := 0#32
  ![v50.toNat, 32, 0, 0]
def k0_off4 (i : grid0.Coords) (c0_i32_36 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v50 : BitVec 32 := Scalar.addi v1 c0_i32_36
  let c0_i32_51 : BitVec 32 := 0#32
  let v62 : BitVec 1 := Scalar.cmpi .sgt v50 c0_i32_51
  let v63 : BitVec 32 := Scalar.extui v62
  let c0_i32_52 : BitVec 32 := 0#32
  let v64 : BitVec 1 := Scalar.cmpi .slt v50 c0_i32_52
  let v65 : BitVec 32 := Scalar.extui v64
  let v66 : BitVec 32 := Scalar.subi v63 v65
  let c8_i32_50 : BitVec 32 := 8#32
  let c0_i32_53 : BitVec 32 := 0#32
  let v67 : BitVec 1 := Scalar.cmpi .sgt c8_i32_50 c0_i32_53
  let v68 : BitVec 32 := Scalar.extui v67
  let c0_i32_54 : BitVec 32 := 0#32
  let v69 : BitVec 1 := Scalar.cmpi .slt c8_i32_50 c0_i32_54
  let v70 : BitVec 32 := Scalar.extui v69
  let v71 : BitVec 32 := Scalar.subi v68 v70
  let v72 : BitVec 1 := Scalar.cmpi .ne v66 v71
  let v73 : BitVec 32 := Scalar.remsi v50 c8_i32_50
  let c0_i32_55 : BitVec 32 := 0#32
  let v74 : BitVec 1 := Scalar.cmpi .ne v73 c0_i32_55
  let v75 : BitVec 1 := Scalar.andi v72 v74
  let v61 : BitVec 32 := Scalar.divsi v50 c8_i32_50
  let c1_i32_56 : BitVec 32 := 1#32
  let v76 : BitVec 32 := Scalar.subi v61 c1_i32_56
  let v77 : BitVec 32 := Scalar.select v75 v76 v61
  let c32_i32_68 : BitVec 32 := 32#32
  let c8_i32_57 : BitVec 32 := 8#32
  let c0_i32_58 : BitVec 32 := 0#32
  let v78 : BitVec 1 := Scalar.cmpi .eq c8_i32_57 c0_i32_58
  let c1_i32_59 : BitVec 32 := 1#32
  let v79 : BitVec 32 := Scalar.select v78 c1_i32_59 c8_i32_57
  let v80 : BitVec 32 := Scalar.remsi v50 v79
  let c0_i32_61 : BitVec 32 := 0#32
  let v82 : BitVec 1 := Scalar.cmpi .slt v80 c0_i32_61
  let c0_i32_62 : BitVec 32 := 0#32
  let v83 : BitVec 1 := Scalar.cmpi .slt v79 c0_i32_62
  let v84 : BitVec 1 := Scalar.xori v82 v83
  let c0_i32_60 : BitVec 32 := 0#32
  let v81 : BitVec 1 := Scalar.cmpi .ne v80 c0_i32_60
  let v85 : BitVec 1 := Scalar.andi v84 v81
  let v86 : BitVec 32 := Scalar.addi v80 v79
  let v87 : BitVec 32 := Scalar.select v85 v86 v80
  let c0_i32_69 : BitVec 32 := 0#32
  ![v77.toNat, 32, v87.toNat, 0]
def k0_off5 (i : grid0.Coords) (c0_i32_74 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v98 : BitVec 32 := Scalar.addi v1 c0_i32_74
  let c0_i32_105 : BitVec 32 := 0#32
  let c0_i32_106 : BitVec 32 := 0#32
  let c0_i32_107 : BitVec 32 := 0#32
  ![v98.toNat, 0, 0, 0]
def k0_off6 (i : grid0.Coords) (c0_i32_153 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v177 : BitVec 32 := Scalar.addi v1 c0_i32_153
  let c32_i32_184 : BitVec 32 := 32#32
  let c0_i32_185 : BitVec 32 := 0#32
  let c0_i32_186 : BitVec 32 := 0#32
  ![v177.toNat, 32, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S512x8192 : Shape := ⟨2, ![512, 8192]⟩
abbrev S512x8192x8 : Shape := ⟨3, ![512, 8192, 8]⟩
abbrev S512x8192x1 : Shape := ⟨3, ![512, 8192, 1]⟩
abbrev S512x8192x7 : Shape := ⟨3, ![512, 8192, 7]⟩
abbrev S_ : Shape := ⟨0, ![]⟩
abbrev S1 : Shape := ⟨1, ![1]⟩

abbrev nBuf : Space → Nat
  | .hbm => 8
  | .vmem => 0
  | .smem => 0
  | _ => 0

abbrev bufTy : (tb : Table) → Fin (tcTables nBuf tb) → BufTy
  | .hbm, ⟨0, _⟩ => ⟨S512x8192, .f32⟩
  | .hbm, ⟨1, _⟩ => ⟨S512x8192x8, .f32⟩
  | .hbm, ⟨2, _⟩ => ⟨S512x8192x1, .f32⟩
  | .hbm, ⟨3, _⟩ => ⟨S512x8192x7, .f32⟩
  | .hbm, ⟨4, _⟩ => ⟨S512x8192x8, .f32⟩
  | .hbm, ⟨5, _⟩ => ⟨S_, .i32⟩
  | .hbm, ⟨6, _⟩ => ⟨S1, .i32⟩
  | .hbm, ⟨7, _⟩ => ⟨S512x8192x8, .f32⟩
  | _, _ => ⟨S512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== Proof.Program.lean ====
/-
  The SparseCore kernel's program, written again as a loop over the 32 units of work of one tile.

  Unit `u` of tile `L` is half of one batch row: row `2·(L 1) + (L 0) + 32·(u / 2)`, and of its 64 groups of 128
  neurons the 32 that start at `32·(u % 2)`. The tile works on a ring of three slots of its vector memory, unit `u` in
  slot `u % 3`:
    `issue u`    starts the copy of the unit's history (its first seven entries) into entries 1 to 7 of the slot, and
                 the copy of the unit's new activations into entry 0;
    `collect u`  waits for both and starts the copy of the slot to the unit's place in the output;
    `drain u`    waits for that copy, after which the slot is free again.
-/
module

public import proofs.«01_k».proof.Defs
public import proofs.«01_k».proof.Proof.Gen.KernelIdeal
public import proofs.«01_k».proof.Proof.Gen.KernelIdeal.Skeleton
public import Idealize.ShloMosaic.Lib.Tactic

@[expose] public section

noncomputable section

namespace Cert.Proof.Push

open Cert.KernelIdeal Cert.KernelIdeal.Gen
open Idealize.ShloMosaic Idealize.SL.Sem

variable {F : FTy → Type} [FloatOps F]

/-- The activations, the history, the output (in HBM) and the tile's own ring of three slots. -/
abbrev xV : Memref sig .scVector .hbm S64x64x8x128 .f32 := Memref.whole main_v3_scv
abbrev hV : Memref sig .scVector .hbm S512x64x8x128 .f32 := Memref.whole main_v1_scv
abbrev oV : Memref sig .scVector .hbm S512x64x8x128 .f32 := Memref.whole main_v4_scv
abbrev bV : Memref sig .scVector .vmem S3x32x8x128 .f32 := Memref.whole cc0_scratch0

/-- The round (of sixteen) that unit `u` belongs to. -/
def rnd (u : Fin 32) : Fin 16 := ⟨u.val / 2, by omega⟩

/-- Where unit `u` starts in the history, as it is read. -/
def hOff (L : grid0.Coords) (u : Fin 32) : Fin 4 → Nat :=
  if u.val % 2 = 0 then k0_off1 L (BitVec.ofNat 32 (32 * (u.val / 2))) else k0_off3 L (BitVec.ofNat 32 (32 * (u.val / 2)))
/-- Where unit `u` starts in the activations. -/
def xOff (L : grid0.Coords) (u : Fin 32) : Fin 4 → Nat :=
  if u.val % 2 = 0 then k0_off2 L (BitVec.ofNat 32 (32 * (u.val / 2))) else k0_off4 L (BitVec.ofNat 32 (32 * (u.val / 2)))
/-- Where unit `u` starts in the output. -/
def oOff (L : grid0.Coords) (u : Fin 32) : Fin 4 → Nat :=
  if u.val % 2 = 0 then k0_off5 L (BitVec.ofNat 32 (32 * (u.val / 2))) else k0_off6 L (BitVec.ofNat 32 (32 * (u.val / 2)))

/-- Unit `u`'s part of the history lies within it. -/
theorem hOff_inb (L : grid0.Coords) (u : Fin 32) : ∀ a, hOff L u a + S1x32x7x128.size a ≤ S512x64x8x128.size a := by
  unfold hOff; split
  · exact k0_off1_inb L (rnd u)
  · exact k0_off3_inb L (rnd u)
/-- Its part of the activations lies within them. -/
theorem xOff_inb (L : grid0.Coords) (u : Fin 32) : ∀ a, xOff L u a + S1x32x1x128.size a ≤ S64x64x8x128.size a := by
  unfold xOff; split
  · exact k0_off2_inb L (rnd u)
  · exact k0_off4_inb L (rnd u)
/-- Its part of the output lies within it. -/
theorem oOff_inb (L : grid0.Coords) (u : Fin 32) : ∀ a, oOff L u a + S1x32x8x128.size a ≤ S512x64x8x128.size a := by
  unfold oOff; split
  · exact k0_off5_inb L (rnd u)
  · exact k0_off6_inb L (rnd u)

/-- The slot that unit `u` uses. -/
def slot (u : Fin 32) : Fin 3 := ⟨u.val % 3, Nat.mod_lt _ (by decide)⟩

/-- Entries 1 to 7 of a slot lie within the ring. -/
theorem tailInb (j : Fin 3) : ∀ a, (![j.val, 0, 1, 0] : Fin 4 → Nat) a + S1x32x7x128.size a ≤ S3x32x8x128.size a := by
  revert j; decide
/-- So does entry 0 of a slot. -/
theorem headInb (j : Fin 3) : ∀ a, (![j.val, 0, 0, 0] : Fin 4 → Nat) a + S1x32x1x128.size a ≤ S3x32x8x128.size a := by
  revert j; decide
/-- So does a whole slot. -/
theorem fullInb (j : Fin 3) : ∀ a, (![j.val, 0, 0, 0] : Fin 4 → Nat) a + S1x32x8x128.size a ≤ S3x32x8x128.size a := by
  revert j; decide
/-- A slot's semaphore is one of the three. -/
theorem semInb (j : Fin 3) : ∀ a, (![j.val] : Fin 1 → Nat) a + S1.size a ≤ S3.size a := by
  revert j; decide

/-- Unit `u`'s part of the history, of the activations and of the output. -/
abbrev hU (L : grid0.Coords) (u : Fin 32) : Memref sig .scVector .hbm S32x7x128 .f32 :=
  (hV.slice (Rect.unit (s := S512x64x8x128) (hOff L u) S1x32x7x128.size (hOff_inb L u)) (fun _ => rfl)).squeeze S32x7x128 squeezes_S1x32x7x128_S32x7x128
abbrev xU (L : grid0.Coords) (u : Fin 32) : Memref sig .scVector .hbm S32x128 .f32 :=
  (xV.slice (Rect.unit (s := S64x64x8x128) (xOff L u) S1x32x1x128.size (xOff_inb L u)) (fun _ => rfl)).squeeze S32x128 squeezes_S1x32x1x128_S32x128
abbrev oU (L : grid0.Coords) (u : Fin 32) : Memref sig .scVector .hbm S32x8x128 .f32 :=
  (oV.slice (Rect.unit (s := S512x64x8x128) (oOff L u) S1x32x8x128.size (oOff_inb L u)) (fun _ => rfl)).squeeze S32x8x128 squeezes_S1x32x8x128_S32x8x128

/-- Slot `j` of the ring: its entries 1 to 7, its entry 0, all of it. -/
abbrev bTail (j : Fin 3) : Memref sig .scVector .vmem S32x7x128 .f32 :=
  (bV.slice (Rect.unit (s := S3x32x8x128) ![j.val, 0, 1, 0] S1x32x7x128.size (tailInb j)) (fun _ => rfl)).squeeze S32x7x128 squeezes_S1x32x7x128_S32x7x128
abbrev bHead (j : Fin 3) : Memref sig .scVector .vmem S32x128 .f32 :=
  (bV.slice (Rect.unit (s := S3x32x8x128) ![j.val, 0, 0, 0] S1x32x1x128.size (headInb j)) (fun _ => rfl)).squeeze S32x128 squeezes_S1x32x1x128_S32x128
abbrev bFull (j : Fin 3) : Memref sig .scVector .vmem S32x8x128 .f32 :=
  (bV.slice (Rect.unit (s := S3x32x8x128) ![j.val, 0, 0, 0] S1x32x8x128.size (fullInb j)) (fun _ => rfl)).squeeze S32x8x128 squeezes_S1x32x8x128_S32x8x128

/-- Slot `j`'s semaphore among three. -/
abbrev semAt (A : DmaSems sig S3) (j : Fin 3) : DmaSem sig :=
  ((A.slice (Rect.unit (s := S3) ![j.val] S1.size (semInb j))).squeeze S_ squeezes_S1_S_).sem
/-- Slot `j`'s three semaphores: the history's arrival, the activations' arrival, the output's departure. -/
abbrev semH (j : Fin 3) : DmaSem sig := semAt cc0_scratch1 j
abbrev semX (j : Fin 3) : DmaSem sig := semAt cc0_scratch2 j
abbrev semO (j : Fin 3) : DmaSem sig := semAt cc0_scratch3 j

/-- Programs of the tile at `L`. -/
abbrev TProg (F : FTy → Type) (L : grid0.Coords) : Type 1 :=
  Prog (TpuEff nD τ sig (Elt F) Λ₀ (.scVector ((L 0).castLE hcore0) ((L 1).castLE hsub0))) PUnit

/-- Start both copies into the unit's slot. -/
def issue (L : grid0.Coords) (u : Fin 32) (k : TProg F L) : TProg F L :=
  .op (.enqueueDma (hU L u) (.here (bTail (slot u))) (.dma (semH (slot u))) ((View.wordExact_bits rfl).reshape _ _) ((View.wordExact_bits rfl).reshape _ _) ⟨Or.inl rfl, trivial⟩) fun _ =>
  .op (.enqueueDma (xU L u) (.here (bHead (slot u))) (.dma (semX (slot u))) ((View.wordExact_bits rfl).reshape _ _) ((View.wordExact_bits rfl).reshape _ _) ⟨Or.inl rfl, trivial⟩) fun _ => k

/-- Wait for both and start the copy out of the slot. -/
def collect (L : grid0.Coords) (u : Fin 32) (k : TProg F L) : TProg F L :=
  .op (.waitDma2 (semH (slot u)) (hU L u) (bTail (slot u)) ((View.wordExact_bits rfl).reshape _ _) ((View.wordExact_bits rfl).reshape _ _)) fun _ =>
  .op (.waitDma2 (semX (slot u)) (xU L u) (bHead (slot u)) ((View.wordExact_bits rfl).reshape _ _) ((View.wordExact_bits rfl).reshape _ _)) fun _ =>
  .op (.enqueueDma (bFull (slot u)) (.here (oU L u)) (.dma (semO (slot u))) ((View.wordExact_bits rfl).reshape _ _) ((View.wordExact_bits rfl).reshape _ _) ⟨Or.inl rfl, trivial⟩) fun _ => k

/-- Wait for the copy out of the slot. -/
def drain (L : grid0.Coords) (u : Fin 32) (k : TProg F L) : TProg F L :=
  .op (.waitDma2 (semO (slot u)) (bFull (slot u)) (oU L u) ((View.wordExact_bits rfl).reshape _ _) ((View.wordExact_bits rfl).reshape _ _)) fun _ => k

/-- Unit `v`, by its number. -/
abbrev un (v : ℕ) (h : v < 32 := by omega) : Fin 32 := ⟨v, h⟩

/-- The last `n` turns of the loop, from turn `32 - n` on (at most 29 turns: the three first have nothing to drain), and
    what follows the loop. -/
def turns (L : grid0.Coords) : (n : ℕ) → n ≤ 29 → TProg F L
  | 0, _ => collect L 31 (drain L 30 (drain L 31 (drain L 29 (.ret ⟨⟩))))
  | n + 1, h => drain L (un (28 - n)) (issue L (un (31 - n)) (collect L (un (30 - n)) (turns L n (by omega))))

/-- The whole task of the tile. -/
def task (L : grid0.Coords) : TProg F L :=
  issue L 0 (issue L 1 (collect L 0 (issue L 2 (collect L 1 (turns L 29 le_rfl)))))

set_option maxRecDepth 65536 in
/-- The kernel's body is the task of its tile. -/
theorem push_eq_task (L : grid0.Coords) :
    cc0_push (F := F) L xV (Memref.isWhole_whole _) hV (Memref.isWhole_whole _) oV (Memref.isWhole_whole _) bV (Memref.isWhole_whole _)
      cc0_scratch1 cc0_scratch2 cc0_scratch3 = task L := rfl

end Cert.Proof.Push

end
-- ==== Proof.Places.lean ====
/-
  Where each unit's copies read and write: the corners of the unit's parts of the three arrays as plain numbers, and the
  element of the array (or of the ring) that each element of a part is.
-/
module

public import proofs.«01_k».proof.Proof.Program
public import Idealize.ShloMosaic.Lib.ValueLayout

@[expose] public section

noncomputable section

namespace Cert.Proof.Push

open Cert.KernelIdeal Cert.KernelIdeal.Gen
open Idealize.ShloMosaic Idealize.ShloMosaic.ValueIdx

/-! ## The corners -/

/-- The coordinates of the tile on SparseCore `c`, subcore `s`. -/
def coords (c : Fin 2) (s : Fin 16) : grid0.Coords :=
  fun | 0 => c | 1 => s | ⟨_ + 2, h⟩ => absurd h (Nat.not_lt.2 (Nat.le_add_left _ _))

/-- The core and the subcore of a tile. -/
def core (L : grid0.Coords) : Fin 2 := L 0
def sub (L : grid0.Coords) : Fin 16 := L 1

/-- A tile's coordinates are its core and its subcore. -/
theorem coords_eta (L : grid0.Coords) : coords (core L) (sub L) = L := by
  funext a
  match a with
  | 0 => rfl
  | 1 => rfl

/-- The batch row of unit `u` of tile `L`. -/
def row (L : grid0.Coords) (u : Fin 32) : ℕ := 2 * (sub L).val + (core L).val + 32 * (u.val / 2)
/-- The first of the unit's 32 groups of neurons. -/
def grp (u : Fin 32) : ℕ := 32 * (u.val % 2)

/-- A unit's batch row is one of the 512. -/
theorem row_lt (L : grid0.Coords) (u : Fin 32) : row L u < 512 := by
  have h0 := (core L).isLt; have h1 := (sub L).isLt; have h2 := u.isLt
  unfold row; omega

set_option maxRecDepth 100000 in
/-- The corner in the activations, first half: their row is split in a group of eight and a place in it. -/
theorem off2_tab : ∀ (c : Fin 2) (s : Fin 16) (r : Fin 16) (a : Fin 4), k0_off2 (coords c s) (BitVec.ofNat 32 (32 * r.val)) a
    = (![(2 * s.val + c.val + 32 * r.val) / 8, 0, (2 * s.val + c.val + 32 * r.val) % 8, 0] : Fin 4 → ℕ) a := by
  decide +kernel
set_option maxRecDepth 100000 in
/-- The same, second half. -/
theorem off4_tab : ∀ (c : Fin 2) (s : Fin 16) (r : Fin 16) (a : Fin 4), k0_off4 (coords c s) (BitVec.ofNat 32 (32 * r.val)) a
    = (![(2 * s.val + c.val + 32 * r.val) / 8, 32, (2 * s.val + c.val + 32 * r.val) % 8, 0] : Fin 4 → ℕ) a := by
  decide +kernel

/-- A unit of the first half starts at group 0, one of the second at group 32. -/
theorem grp_even {u : Fin 32} (h : u.val % 2 = 0) : grp u = 0 := by unfold grp; rw [h]
/-- The same, for a unit of the second half. -/
theorem grp_odd {u : Fin 32} (h : ¬u.val % 2 = 0) : grp u = 32 := by unfold grp; omega

/-- The unit's corner in the history is its batch row and its first group. -/
theorem hOff_eq (L : grid0.Coords) (u : Fin 32) : hOff L u = ![row L u, grp u, 0, 0] := by
  unfold hOff; split
  · next h => rw [grp_even h]; exact k0_off1_eq L (rnd u)
  · next h => rw [grp_odd h]; exact k0_off3_eq L (rnd u)
/-- Its corner in the output is the same. -/
theorem oOff_eq (L : grid0.Coords) (u : Fin 32) : oOff L u = ![row L u, grp u, 0, 0] := by
  unfold oOff; split
  · next h => rw [grp_even h]; exact k0_off5_eq L (rnd u)
  · next h => rw [grp_odd h]; exact k0_off6_eq L (rnd u)
/-- Its corner in the activations. -/
theorem xOff_eq (L : grid0.Coords) (u : Fin 32) : xOff L u = ![row L u / 8, grp u, row L u % 8, 0] := by
  unfold xOff; split
  · next h =>
    rw [grp_even h]
    have e := off2_tab (core L) (sub L) (rnd u)
    rw [coords_eta] at e
    exact funext e
  · next h =>
    rw [grp_odd h]
    have e := off4_tab (core L) (sub L) (rnd u)
    rw [coords_eta] at e
    exact funext e

/-! ## The elements -/

/-- A plane of 32 × 128 as a box of the activations' rank: its index, with the two axes of one element put back. -/
theorem plane_box (h : S32x128.numel = S1x32x1x128.numel) (a : Fin 32) (b : Fin 128) :
    Shape.reshapeEquiv h (ix2 a b) = (ix4 0 a 0 b : (⟨4, ![1, 32, 1, 128]⟩ : Shape).Idx) :=
  Shape.reshapeEquiv_eq_of_rowMajor h (by
    rw [Shape.rowMajor_val_four, Shape.rowMajor_val_two]
    show (((0 * 32 + a.val) * 1 + 0) * 128 + b.val) = a.val * 128 + b.val
    omega)

/-- Element `(a, k, b)` of the unit's part of the history. -/
theorem hU_emb (L : grid0.Coords) (u : Fin 32) (a : Fin 32) (k : Fin 7) (b : Fin 128) :
    (hU L u).view.emb (ix3 a k b) = (ix4 (⟨row L u, row_lt L u⟩ : Fin 512) ⟨grp u + a.val, by unfold grp; omega⟩ ⟨k.val, by omega⟩ b : (⟨4, ![512, 64, 8, 128]⟩ : Shape).Idx) := by
  show (Rect.unit (s := S512x64x8x128) (hOff L u) S1x32x7x128.size (hOff_inb L u)).emb (Shape.reshapeEquiv _ (ix3 a k b)) = _
  rw [reshapeEquiv_ix3_1abc]
  funext x
  apply Fin.ext
  rw [Rect.emb_apply]
  show hOff L u x + 1 * _ = _
  rw [congrFun (hOff_eq L u) x]
  match x with
  | ⟨0, _⟩ => show row L u + 1 * 0 = row L u; omega
  | ⟨1, _⟩ => show grp u + 1 * a.val = grp u + a.val; omega
  | ⟨2, _⟩ => show 0 + 1 * k.val = k.val; omega
  | ⟨3, _⟩ => show 0 + 1 * b.val = b.val; omega

/-- Element `(a, k, b)` of the unit's part of the output. -/
theorem oU_emb (L : grid0.Coords) (u : Fin 32) (a : Fin 32) (k : Fin 8) (b : Fin 128) :
    (oU L u).view.emb (ix3 a k b) = (ix4 (⟨row L u, row_lt L u⟩ : Fin 512) ⟨grp u + a.val, by unfold grp; omega⟩ k b : (⟨4, ![512, 64, 8, 128]⟩ : Shape).Idx) := by
  show (Rect.unit (s := S512x64x8x128) (oOff L u) S1x32x8x128.size (oOff_inb L u)).emb (Shape.reshapeEquiv _ (ix3 a k b)) = _
  rw [reshapeEquiv_ix3_1abc]
  funext x
  apply Fin.ext
  rw [Rect.emb_apply]
  show oOff L u x + 1 * _ = _
  rw [congrFun (oOff_eq L u) x]
  match x with
  | ⟨0, _⟩ => show row L u + 1 * 0 = row L u; omega
  | ⟨1, _⟩ => show grp u + 1 * a.val = grp u + a.val; omega
  | ⟨2, _⟩ => show 0 + 1 * k.val = k.val; omega
  | ⟨3, _⟩ => show 0 + 1 * b.val = b.val; omega

/-- Element `(a, b)` of the unit's part of the activations. -/
theorem xU_emb (L : grid0.Coords) (u : Fin 32) (a : Fin 32) (b : Fin 128) :
    (xU L u).view.emb (ix2 a b) = (ix4 (⟨row L u / 8, by have := row_lt L u; omega⟩ : Fin 64) ⟨grp u + a.val, by unfold grp; omega⟩
      ⟨row L u % 8, by omega⟩ b : (⟨4, ![64, 64, 8, 128]⟩ : Shape).Idx) := by
  show (Rect.unit (s := S64x64x8x128) (xOff L u) S1x32x1x128.size (xOff_inb L u)).emb (Shape.reshapeEquiv _ (ix2 a b)) = _
  rw [plane_box]
  funext x
  apply Fin.ext
  rw [Rect.emb_apply]
  show xOff L u x + 1 * _ = _
  rw [congrFun (xOff_eq L u) x]
  match x with
  | ⟨0, _⟩ => show row L u / 8 + 1 * 0 = row L u / 8; omega
  | ⟨1, _⟩ => show grp u + 1 * a.val = grp u + a.val; omega
  | ⟨2, _⟩ => show row L u % 8 + 1 * 0 = row L u % 8; omega
  | ⟨3, _⟩ => show 0 + 1 * b.val = b.val; omega

/-- Element `(a, k, b)` of entries 1 to 7 of slot `j`. -/
theorem bTail_emb (j : Fin 3) (a : Fin 32) (k : Fin 7) (b : Fin 128) :
    (bTail j).view.emb (ix3 a k b) = (ix4 j a ⟨k.val + 1, by omega⟩ b : (⟨4, ![3, 32, 8, 128]⟩ : Shape).Idx) := by
  show (Rect.unit (s := S3x32x8x128) ![j.val, 0, 1, 0] S1x32x7x128.size (tailInb j)).emb (Shape.reshapeEquiv _ (ix3 a k b)) = _
  rw [reshapeEquiv_ix3_1abc]
  funext x
  apply Fin.ext
  rw [Rect.emb_apply]
  match x with
  | ⟨0, _⟩ => show j.val + 1 * 0 = j.val; omega
  | ⟨1, _⟩ => show 0 + 1 * a.val = a.val; omega
  | ⟨2, _⟩ => show 1 + 1 * k.val = k.val + 1; omega
  | ⟨3, _⟩ => show 0 + 1 * b.val = b.val; omega

/-- Element `(a, b)` of entry 0 of slot `j`. -/
theorem bHead_emb (j : Fin 3) (a : Fin 32) (b : Fin 128) :
    (bHead j).view.emb (ix2 a b) = (ix4 j a 0 b : (⟨4, ![3, 32, 8, 128]⟩ : Shape).Idx) := by
  show (Rect.unit (s := S3x32x8x128) ![j.val, 0, 0, 0] S1x32x1x128.size (headInb j)).emb (Shape.reshapeEquiv _ (ix2 a b)) = _
  rw [plane_box]
  funext x
  apply Fin.ext
  rw [Rect.emb_apply]
  match x with
  | ⟨0, _⟩ => show j.val + 1 * 0 = j.val; omega
  | ⟨1, _⟩ => show 0 + 1 * a.val = a.val; omega
  | ⟨2, _⟩ => rfl
  | ⟨3, _⟩ => show 0 + 1 * b.val = b.val; omega

/-- Element `(a, k, b)` of slot `j`. -/
theorem bFull_emb (j : Fin 3) (a : Fin 32) (k : Fin 8) (b : Fin 128) :
    (bFull j).view.emb (ix3 a k b) = (ix4 j a k b : (⟨4, ![3, 32, 8, 128]⟩ : Shape).Idx) := by
  show (Rect.unit (s := S3x32x8x128) ![j.val, 0, 0, 0] S1x32x8x128.size (fullInb j)).emb (Shape.reshapeEquiv _ (ix3 a k b)) = _
  rw [reshapeEquiv_ix3_1abc]
  funext x
  apply Fin.ext
  rw [Rect.emb_apply]
  match x with
  | ⟨0, _⟩ => show j.val + 1 * 0 = j.val; omega
  | ⟨1, _⟩ => show 0 + 1 * a.val = a.val; omega
  | ⟨2, _⟩ => show 0 + 1 * k.val = k.val; omega
  | ⟨3, _⟩ => show 0 + 1 * b.val = b.val; omega

/-! ## Which elements a part has -/

/-- The elements of a unit's parts and of a slot, as elements of their arrays. -/
abbrev hSet (L : grid0.Coords) (u : Fin 32) : Finset S512x64x8x128.Idx := (hU L u).view.set
abbrev xSet (L : grid0.Coords) (u : Fin 32) : Finset S64x64x8x128.Idx := (xU L u).view.set
abbrev oSet (L : grid0.Coords) (u : Fin 32) : Finset S512x64x8x128.Idx := (oU L u).view.set
abbrev bSet (j : Fin 3) : Finset S3x32x8x128.Idx := (bFull j).view.set

/-- An element of the unit's part of the history lies in the unit's row and half. -/
theorem mem_hU {L : grid0.Coords} {u : Fin 32} {i : S512x64x8x128.Idx} (h : i ∈ (hU L u).view.set) :
    (i 0).val = row L u ∧ (i 1).val / 32 = u.val % 2 := by
  obtain ⟨y, -, hy⟩ := Finset.mem_map.mp h
  obtain ⟨a, k, b, rfl⟩ : ∃ (a : Fin 32) (k : Fin 7) (b : Fin 128), y = ix3 a k b := ⟨y 0, y 1, y 2, eq_ix3 y⟩
  have e := (hU_emb L u a k b).symm.trans hy
  subst e
  have h1 := a.isLt
  refine ⟨rfl, ?_⟩
  show (grp u + a.val) / 32 = _
  unfold grp; omega

/-- The elements of the unit's part of the output are those of the unit's row and half. -/
theorem mem_oU {L : grid0.Coords} {u : Fin 32} {i : S512x64x8x128.Idx} :
    i ∈ (oU L u).view.set ↔ (i 0).val = row L u ∧ (i 1).val / 32 = u.val % 2 := by
  constructor
  · intro h
    obtain ⟨y, -, hy⟩ := Finset.mem_map.mp h
    obtain ⟨a, k, b, rfl⟩ : ∃ (a : Fin 32) (k : Fin 8) (b : Fin 128), y = ix3 a k b := ⟨y 0, y 1, y 2, eq_ix3 y⟩
    have e := (oU_emb L u a k b).symm.trans hy
    subst e
    have h1 := a.isLt
    refine ⟨rfl, ?_⟩
    show (grp u + a.val) / 32 = _
    unfold grp; omega
  · rintro ⟨h0, h1⟩
    have hi : (i 1).val < 64 := (i 1).isLt
    have e : (oU L u).view.emb (ix3 (⟨(i 1).val % 32, by omega⟩ : Fin 32) (i 2) (i 3)) = i := by
      refine (oU_emb L u (⟨(i 1).val % 32, by omega⟩ : Fin 32) (i 2) (i 3)).trans ?_
      funext x
      apply Fin.ext
      match x with
      | ⟨0, _⟩ => exact h0.symm
      | ⟨1, _⟩ =>
        show grp u + (i 1).val % 32 = (i 1).val
        unfold grp; omega
      | ⟨2, _⟩ => rfl
      | ⟨3, _⟩ => rfl
    rw [← e]
    exact View.emb_mem_set _ _

/-- An element of the unit's part of the activations lies in the unit's row and half. -/
theorem mem_xU {L : grid0.Coords} {u : Fin 32} {i : S64x64x8x128.Idx} (h : i ∈ (xU L u).view.set) :
    8 * (i 0).val + (i 2).val = row L u ∧ (i 1).val / 32 = u.val % 2 := by
  obtain ⟨y, -, hy⟩ := Finset.mem_map.mp h
  obtain ⟨a, b, rfl⟩ : ∃ (a : Fin 32) (b : Fin 128), y = ix2 a b := ⟨y 0, y 1, eq_ix2 y⟩
  have e := (xU_emb L u a b).symm.trans hy
  subst e
  have h1 := a.isLt
  constructor
  · show 8 * (row L u / 8) + row L u % 8 = _
    omega
  · show (grp u + a.val) / 32 = _
    unfold grp; omega

/-- Slot `j` is the elements whose first coordinate is `j`. -/
theorem mem_bFull {j : Fin 3} {i : S3x32x8x128.Idx} : i ∈ (bFull j).view.set ↔ (i 0).val = j.val := by
  constructor
  · intro h
    obtain ⟨y, -, hy⟩ := Finset.mem_map.mp h
    obtain ⟨a, k, b, rfl⟩ : ∃ (a : Fin 32) (k : Fin 8) (b : Fin 128), y = ix3 a k b := ⟨y 0, y 1, y 2, eq_ix3 y⟩
    have e := (bFull_emb j a k b).symm.trans hy
    subst e; rfl
  · intro h
    have e : (bFull j).view.emb (ix3 (i 1) (i 2) (i 3)) = i := by
      refine (bFull_emb j (i 1) (i 2) (i 3)).trans ?_
      funext x
      match x with
      | ⟨0, _⟩ => exact Fin.ext h.symm
      | ⟨1, _⟩ => rfl
      | ⟨2, _⟩ => rfl
      | ⟨3, _⟩ => rfl
    rw [← e]
    exact View.emb_mem_set _ _

/-- Entry 0 of slot `j`. -/
theorem mem_bHead {j : Fin 3} {i : S3x32x8x128.Idx} : i ∈ (bHead j).view.set ↔ (i 0).val = j.val ∧ (i 2).val = 0 := by
  constructor
  · intro h
    obtain ⟨y, -, hy⟩ := Finset.mem_map.mp h
    obtain ⟨a, b, rfl⟩ : ∃ (a : Fin 32) (b : Fin 128), y = ix2 a b := ⟨y 0, y 1, eq_ix2 y⟩
    have e := (bHead_emb j a b).symm.trans hy
    subst e; exact ⟨rfl, rfl⟩
  · rintro ⟨h, h2⟩
    have e : (bHead j).view.emb (ix2 (i 1) (i 3)) = i := by
      refine (bHead_emb j (i 1) (i 3)).trans ?_
      funext x
      match x with
      | ⟨0, _⟩ => exact Fin.ext h.symm
      | ⟨1, _⟩ => rfl
      | ⟨2, _⟩ => exact Fin.ext h2.symm
      | ⟨3, _⟩ => rfl
    rw [← e]
    exact View.emb_mem_set _ _

/-- Entries 1 to 7 of slot `j`. -/
theorem mem_bTail {j : Fin 3} {i : S3x32x8x128.Idx} : i ∈ (bTail j).view.set ↔ (i 0).val = j.val ∧ (i 2).val ≠ 0 := by
  constructor
  · intro h
    obtain ⟨y, -, hy⟩ := Finset.mem_map.mp h
    obtain ⟨a, k, b, rfl⟩ : ∃ (a : Fin 32) (k : Fin 7) (b : Fin 128), y = ix3 a k b := ⟨y 0, y 1, y 2, eq_ix3 y⟩
    have e := (bTail_emb j a k b).symm.trans hy
    subst e; exact ⟨rfl, Nat.succ_ne_zero _⟩
  · rintro ⟨h, h2⟩
    have hi : (i 2).val < 8 := (i 2).isLt
    have e : (bTail j).view.emb (ix3 (i 1) (⟨(i 2).val - 1, by omega⟩ : Fin 7) (i 3)) = i := by
      refine (bTail_emb j (i 1) (⟨(i 2).val - 1, by omega⟩ : Fin 7) (i 3)).trans ?_
      funext x
      match x with
      | ⟨0, _⟩ => exact Fin.ext h.symm
      | ⟨1, _⟩ => rfl
      | ⟨2, _⟩ => exact Fin.ext (show (i 2).val - 1 + 1 = (i 2).val by omega)
      | ⟨3, _⟩ => rfl
    rw [← e]
    exact View.emb_mem_set _ _

/-! ## The parts of one array do not overlap; the output's make it up -/

/-- A unit of work of the whole kernel: core, subcore, unit. -/
abbrev Work : Type := Fin 2 × Fin 16 × Fin 32

/-- The tile of a unit of work. -/
abbrev Work.tile (t : Work) : grid0.Coords := coords t.1 t.2.1

/-- A unit of work is known by its row and its half. -/
theorem work_ext {t t' : Work} (h : row t.tile t.2.2 = row t'.tile t'.2.2) (h' : t.2.2.val % 2 = t'.2.2.val % 2) : t = t' := by
  obtain ⟨c, s, u⟩ := t
  obtain ⟨c', s', u'⟩ := t'
  have e : 2 * s.val + c.val + 32 * (u.val / 2) = 2 * s'.val + c'.val + 32 * (u'.val / 2) := h
  have e' : u.val % 2 = u'.val % 2 := h'
  have hc : c = c' := Fin.ext (by omega)
  have hs : s = s' := Fin.ext (by omega)
  have hu : u = u' := Fin.ext (by omega)
  rw [hc, hs, hu]

/-- Two different units of work share no element of the history. -/
theorem hU_disjoint {t t' : Work} (h : t ≠ t') : Disjoint (hU t.tile t.2.2).view.set (hU t'.tile t'.2.2).view.set :=
  Finset.disjoint_left.mpr fun _ h1 h2 => h (work_ext ((mem_hU h1).1.symm.trans (mem_hU h2).1) ((mem_hU h1).2.symm.trans (mem_hU h2).2))
/-- They share none of the activations. -/
theorem xU_disjoint {t t' : Work} (h : t ≠ t') : Disjoint (xU t.tile t.2.2).view.set (xU t'.tile t'.2.2).view.set :=
  Finset.disjoint_left.mpr fun _ h1 h2 => h (work_ext ((mem_xU h1).1.symm.trans (mem_xU h2).1) ((mem_xU h1).2.symm.trans (mem_xU h2).2))
/-- They share none of the output. -/
theorem oU_disjoint {t t' : Work} (h : t ≠ t') : Disjoint (oU t.tile t.2.2).view.set (oU t'.tile t'.2.2).view.set :=
  Finset.disjoint_left.mpr fun _ h1 h2 => h (work_ext ((mem_oU.mp h1).1.symm.trans (mem_oU.mp h2).1) ((mem_oU.mp h1).2.symm.trans (mem_oU.mp h2).2))

/-- Every element of the output is in the part of some unit of work. -/
theorem oU_cover : (Finset.univ : Finset Work).biUnion (fun t => oSet t.tile t.2.2) = Finset.univ := by
  rw [Finset.eq_univ_iff_forall]
  intro i
  rw [Finset.mem_biUnion]
  have h0 : (i 0).val < 512 := (i 0).isLt
  have h1 : (i 1).val < 64 := (i 1).isLt
  refine ⟨(⟨(i 0).val % 2, by omega⟩, ⟨(i 0).val % 32 / 2, by omega⟩, ⟨2 * ((i 0).val / 32) + (i 1).val / 32, by omega⟩), Finset.mem_univ _, mem_oU.mpr ⟨?_, ?_⟩⟩
  · show (i 0).val = 2 * ((i 0).val % 32 / 2) + (i 0).val % 2 + 32 * ((2 * ((i 0).val / 32) + (i 1).val / 32) / 2)
    omega
  · show (i 1).val / 32 = (2 * ((i 0).val / 32) + (i 1).val / 32) % 2
    omega

/-- Two slots share no element. -/
theorem bFull_disjoint {j j' : Fin 3} (h : j ≠ j') : Disjoint (bFull j).view.set (bFull j').view.set :=
  Finset.disjoint_left.mpr fun _ h1 h2 => h (Fin.ext ((mem_bFull.mp h1).symm.trans (mem_bFull.mp h2)))

/-- The three slots make up the ring. -/
theorem bFull_cover : (Finset.univ : Finset (Fin 3)).biUnion bSet = Finset.univ := by
  rw [Finset.eq_univ_iff_forall]
  intro i
  rw [Finset.mem_biUnion]
  exact ⟨i 0, Finset.mem_univ _, mem_bFull.mpr rfl⟩

/-- Entry 0 of a slot and its entries 1 to 7 share no element. -/
theorem tail_head_disjoint (j : Fin 3) : Disjoint (bTail j).view.set (bHead j).view.set :=
  Finset.disjoint_left.mpr fun _ h1 h2 => (mem_bTail.mp h1).2 (mem_bHead.mp h2).2

/-- Together they are the slot. -/
theorem tail_head_union (j : Fin 3) : (bTail j).view.set ∪ (bHead j).view.set = (bFull j).view.set := by
  ext i
  refine Finset.mem_union.trans ⟨fun h => mem_bFull.mpr (h.elim (fun h => (mem_bTail.mp h).1) fun h => (mem_bHead.mp h).1), fun h => ?_⟩
  by_cases h2 : (i 2).val = 0
  · exact .inr (mem_bHead.mpr ⟨mem_bFull.mp h, h2⟩)
  · exact .inl (mem_bTail.mpr ⟨mem_bFull.mp h, h2⟩)

/-! ## The value of the output -/

variable {α : Type}

/-- The output as one function of the activations and the history: entry 0 of a row is the row's new activation, entry
    `k + 1` is entry `k` of its history. -/
def pushed (x : S64x64x8x128.Idx → α) (h : S512x64x8x128.Idx → α) : S512x64x8x128.Idx → α := fun i =>
  if (i 2).val = 0 then
    x (ix4 (⟨(i 0).val / 8, by have : (i 0).val < 512 := (i 0).isLt; omega⟩ : Fin 64) (i 1) (⟨(i 0).val % 8, by omega⟩ : Fin 8) (i 3))
  else h (ix4 (i 0) (i 1) (⟨(i 2).val - 1, by have : (i 2).val < 8 := (i 2).isLt; omega⟩ : Fin 8) (i 3))

/-- At entry 0 of the unit's part it is the unit's part of the activations. -/
theorem pushed_head (x : S64x64x8x128.Idx → α) (h : S512x64x8x128.Idx → α) (L : grid0.Coords) (u : Fin 32) (a : Fin 32) (b : Fin 128) :
    pushed x h ((oU L u).view.emb (ix3 a 0 b)) = x ((xU L u).view.emb (ix2 a b)) := by
  rw [oU_emb, xU_emb]
  rfl

/-- At its entry `k + 1` it is entry `k` of the unit's part of the history. -/
theorem pushed_tail (x : S64x64x8x128.Idx → α) (h : S512x64x8x128.Idx → α) (L : grid0.Coords) (u : Fin 32) (a : Fin 32) (k : Fin 7) (b : Fin 128) :
    pushed x h ((oU L u).view.emb (ix3 a k.succ b)) = h ((hU L u).view.emb (ix3 a k b)) := by
  rw [oU_emb, hU_emb]
  rfl

end Cert.Proof.Push

end
-- ==== Proof.Steps.lean ====
/-
  The three steps of a unit of work, each with what it takes and what it leaves: starting the copies into a slot, waiting
  for them and starting the copy out, and waiting for that.
-/
module

public import proofs.«01_k».proof.Proof.Places
public import Idealize.ShloMosaic.Lib.SparseCore.Quiescent
public import Idealize.ShloMosaic.Lib.SparseCore.Ops
public import Idealize.ShloMosaic.Lib.StableHlo.Run
public import Idealize.ShloMosaic.Lib.Pipeline.Kit

@[expose] public section

noncomputable section

namespace Cert.Proof.Push

open Cert.KernelIdeal Cert.KernelIdeal.Gen

open Idealize.ShloMosaic Idealize.ShloMosaic.ValueIdx
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch sees it, and the ghost state -/

/-- The program's labels, its launch and its definitions; no loop of it needs a variant. -/
abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The ghost state: the rounds of the launch's hand-shakes, and the counters of the copies. -/
abbrev UH : Type := URounds (GSem nD τ sig) ℕ
abbrev UU : Type := UH × Counters

local notation "𝕄" => MT nD τ sig (HIx 1) (Elt F) ℕ UU ℕ

/-- Where the hand-shakes stand in the ghost state. -/
abbrev EH : Emb UH (MT nD τ sig (HIx 1) (Elt F) ℕ UU ℕ) := embL

/-! ## The arrays, the tile, its ring -/

/-- The activations, the history and the output as the TensorCore names them. -/
abbrev xLoc (d : Dev nD) : Loc nD τ sig := (SparseCore.T d).loc main_v3
abbrev hLoc (d : Dev nD) : Loc nD τ sig := (SparseCore.T d).loc main_v1
abbrev oLoc (d : Dev nD) : Loc nD τ sig := (SparseCore.T d).loc main_v4

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)
/-- The tile's ring. -/
abbrev bLoc (d : Dev nD) (L : grid0.Coords) : Loc nD τ sig := (thr d L).loc cc0_scratch0

variable (X : S64x64x8x128.Idx → Elt F .f32) (H : S512x64x8x128.Idx → Elt F .f32) (Z : S512x64x8x128.Idx → Elt F .f32)

section Resources

variable (d : Dev nD) (L : grid0.Coords)

/-- A unit's parts of the activations and of the history. -/
abbrev xPart (u : Fin 32) : sProp 𝕄 := xLoc d ↦[xSet L u]{fullShare} X
abbrev hPart (u : Fin 32) : sProp 𝕄 := hLoc d ↦[hSet L u]{fullShare} H
/-- A unit's part of the output, at contents `f`. -/
abbrev oPart (u : Fin 32) (f : S512x64x8x128.Idx → Elt F .f32) : sProp 𝕄 := oLoc d ↦[oSet L u]{fullShare} f

/-- A unit not yet begun: its inputs, and its part of the output as it was. -/
abbrev Todo (u : Fin 32) : sProp 𝕄 := iprop(xPart X d L u ∗ hPart H d L u ∗ oPart d L u Z)
/-- A unit done: its inputs, and its part of the output at the kernel's value. -/
abbrev Done (u : Fin 32) : sProp 𝕄 := iprop(xPart X d L u ∗ hPart H d L u ∗ oPart d L u (pushed X H))

/-- A slot that no unit uses: its elements at some contents, its three counters at zero. -/
def Idle (j : Fin 3) : sProp 𝕄 :=
  iprop((∃ f, bLoc d L ↦[bSet j]{fullShare} f)
    ∗ semVal (thr d L, .dma (semH j)) 0 ∗ semVal (thr d L, .dma (semX j)) 0 ∗ semVal (thr d L, .dma (semO j)) 0)

/-- What the copy of the history hands over: entries 1 to 7 of the slot hold it, and its source. -/
abbrev TailIn (u : Fin 32) : sProp 𝕄 :=
  iprop((∃ g : S3x32x8x128.Idx → Elt F .f32, ⌜∀ (a : Fin 32) (k : Fin 7) (b : Fin 128), g (ix4 (slot u) a k.succ b) = H ((hU L u).view.emb (ix3 a k b))⌝
      ∗ bLoc d L ↦[((bTail (slot u)).view.set : Finset S3x32x8x128.Idx)]{fullShare} g) ∗ hPart H d L u)
/-- What the copy of the activations hands over: entry 0 of the slot holds them, and its source. -/
abbrev HeadIn (u : Fin 32) : sProp 𝕄 :=
  iprop((∃ g : S3x32x8x128.Idx → Elt F .f32, ⌜∀ (a : Fin 32) (b : Fin 128), g (ix4 (slot u) a 0 b) = X ((xU L u).view.emb (ix2 a b))⌝
      ∗ bLoc d L ↦[((bHead (slot u)).view.set : Finset S3x32x8x128.Idx)]{fullShare} g) ∗ xPart X d L u)
/-- What the copy out hands over: the unit's part of the output at the kernel's value, and the slot. -/
abbrev FullOut (u : Fin 32) : sProp 𝕄 :=
  iprop(oPart d L u (pushed X H) ∗ ∃ f, bLoc d L ↦[bSet (slot u)]{fullShare} f)

/-- The bytes the three copies count. -/
abbrev nTail (j : Fin 3) : ℕ := (bTail j).view.dmaCredit
abbrev nHead (j : Fin 3) : ℕ := (bHead j).view.dmaCredit
abbrev nFull (L : grid0.Coords) (u : Fin 32) : ℕ := (oU L u).view.dmaCredit

/-- A unit whose copies into its slot are under way. -/
def Loading (u : Fin 32) : sProp 𝕄 :=
  iprop(Transfers.Flight countersEmb (thr d L) (.dma (semH (slot u))) (default : HIx 1) (nTail (slot u)) (TailIn H d L u)
    ∗ Transfers.Flight countersEmb (thr d L) (.dma (semX (slot u))) (default : HIx 1) (nHead (slot u)) (HeadIn X d L u)
    ∗ semVal (thr d L, .dma (semO (slot u))) 0 ∗ oPart d L u Z)
/-- A unit whose copy out of its slot is under way. -/
def Storing (u : Fin 32) : sProp 𝕄 :=
  iprop(Transfers.Flight countersEmb (thr d L) (.dma (semO (slot u))) (default : HIx 1) (nFull L u) (FullOut X H d L u)
    ∗ semVal (thr d L, .dma (semH (slot u))) 0 ∗ semVal (thr d L, .dma (semX (slot u))) 0 ∗ xPart X d L u ∗ hPart H d L u)

/-- What the tile owes throughout, the waits it has made beyond `W` all its own. -/
def Owing (O : CellTallies nD τ sig (HIx 1)) (W : Waits sig (HIx 1)) : sProp 𝕄 :=
  iprop(levAts (K (F := F)).L (K (F := F)).lev ∗ ∃ W', ⌜∀ p ∈ W', p ∈ W ∨ p.2 = none⌝ ∗ owes (thr d L) O W')

end Resources

/-! ## Values -/

/-- An array rewritten through a part of it, at an element of the part. -/
theorem write_at {κ : Kind} {sp : Space} {s : Shape} (v : View sig κ sp s .f32) (f : v.ty.Contents (Elt F)) (w : s.Idx → Elt F .f32) (y : s.Idx) :
    v.read (Elt F) (v.write (Elt F) f w Finset.univ) y = w y := by
  rw [View.read_write_univ]

section Steps

variable [FloatOps F] (d : Dev nD) (L : grid0.Coords)

/-- The history written into a slot's entries 1 to 7. -/
theorem tail_value (u : Fin 32) (f : S3x32x8x128.Idx → Elt F .f32) (a : Fin 32) (k : Fin 7) (b : Fin 128) :
    ((bTail (slot u)).view.write (Elt F) f ((hU L u).view.read (Elt F) H) Finset.univ : S3x32x8x128.Idx → Elt F .f32) (ix4 (slot u) a k.succ b)
      = H ((hU L u).view.emb (ix3 a k b)) := by
  have e := bTail_emb (slot u) a k b
  have h := write_at (bTail (slot u)).view f ((hU L u).view.read (Elt F) H) (ix3 a k b)
  rw [← show (bTail (slot u)).view.emb (ix3 a k b) = (ix4 (slot u) a k.succ b : S3x32x8x128.Idx) from e]
  exact h

/-- The activations written into a slot's entry 0. -/
theorem head_value (u : Fin 32) (f : S3x32x8x128.Idx → Elt F .f32) (a : Fin 32) (b : Fin 128) :
    ((bHead (slot u)).view.write (Elt F) f ((xU L u).view.read (Elt F) X) Finset.univ : S3x32x8x128.Idx → Elt F .f32) (ix4 (slot u) a 0 b)
      = X ((xU L u).view.emb (ix2 a b)) := by
  have e := bHead_emb (slot u) a b
  have h := write_at (bHead (slot u)).view f ((xU L u).view.read (Elt F) X) (ix2 a b)
  rw [← show (bHead (slot u)).view.emb (ix2 a b) = (ix4 (slot u) a 0 b : S3x32x8x128.Idx) from e]
  exact h

/-- A slot that holds the unit's history and activations, written out, is the kernel's value on the unit's part. -/
theorem full_value (u : Fin 32) (g f : S3x32x8x128.Idx → Elt F .f32) (z : S512x64x8x128.Idx → Elt F .f32)
    (hg : ∀ (a : Fin 32) (k : Fin 7) (b : Fin 128), g (ix4 (slot u) a k.succ b) = H ((hU L u).view.emb (ix3 a k b)))
    (hf : ∀ (a : Fin 32) (b : Fin 128), f (ix4 (slot u) a 0 b) = X ((xU L u).view.emb (ix2 a b)))
    (w : S3x32x8x128.Idx → Elt F .f32) (hw0 : ∀ i ∈ ((bHead (slot u)).view.set : Finset S3x32x8x128.Idx), w i = f i)
    (hw1 : ∀ i ∉ ((bHead (slot u)).view.set : Finset S3x32x8x128.Idx), w i = g i) :
    ∀ i ∈ oSet L u, ((oU L u).view.write (Elt F) z ((bFull (slot u)).view.read (Elt F) w) Finset.univ : S512x64x8x128.Idx → Elt F .f32) i = pushed X H i := by
  intro i hi
  obtain ⟨y, -, rfl⟩ := Finset.mem_map.mp hi
  obtain ⟨a, k, b, rfl⟩ : ∃ (a : Fin 32) (k : Fin 8) (b : Fin 128), y = ix3 a k b := ⟨y 0, y 1, y 2, eq_ix3 y⟩
  refine (write_at (oU L u).view z ((bFull (slot u)).view.read (Elt F) w) (ix3 a k b)).trans ?_
  have e : (bFull (slot u)).view.read (Elt F) w (ix3 a k b) = w (ix4 (slot u) a k b) := congrArg w (bFull_emb (slot u) a k b)
  rw [e]
  refine Fin.cases ?_ (fun k => ?_) k
  · exact (hw0 _ (mem_bHead.mpr ⟨rfl, rfl⟩)).trans ((hf a b).trans (pushed_head X H L u a b).symm)
  · exact (hw1 _ fun h => absurd (mem_bHead.mp h).2 (Nat.succ_ne_zero _)).trans ((hg a k b).trans (pushed_tail X H L u a k b).symm)

/-! ## The steps -/

/-- Runs of the tile at `L`. -/
abbrev Run (p : TProg F L) (Q : PUnit.{1} → sProp 𝕄) : sProp 𝕄 := wp frame (wpE (defs₀ (F := F)) 𝒱₀ (thr d L) none) Set.univ p Q

/-- Starting a unit's copies takes an idle slot and the unit not yet begun, and leaves the unit loading. -/
theorem issue_run (u : Fin 32) (k : TProg F L) {Q : PUnit.{1} → sProp 𝕄} :
    iprop(Idle (F := F) d L (slot u) ∗ Todo X H Z d L u ∗ (Loading X H Z d L u -∗ Run d L k Q)) ⊢ Run d L (issue L u k) Q := by
  unfold Idle Loading issue
  iintro ⟨⟨⟨%f, Hb⟩, HsH, HsX, HsO⟩, ⟨Hx, Hh, Ho⟩, Hk⟩
  ihave Hb := (show (bLoc d L ↦[bSet (slot u)]{fullShare} f : sProp 𝕄)
      ⊢ iprop((bLoc d L ↦[((bTail (slot u)).view.set : Finset S3x32x8x128.Idx)]{fullShare} f) ∗ bLoc d L ↦[((bHead (slot u)).view.set : Finset S3x32x8x128.Idx)]{fullShare} f) from
    (Entails.of_eq (by rw [bSet, ← tail_head_union])).trans (pointsTo_union (tail_head_disjoint (slot u))).1) $$ Hb
  icases Hb with ⟨Ht, Hd⟩
  iapply (Transfers.wp_dmaLocal countersEmb 𝒱₀ (thr d L) none (src := hU L u) (dst := bTail (slot u)) (default : HIx 1) (nTail (slot u)) rfl (View.dmaCredit_pos _ (by decide)) (Finset.Subset.refl _)) $$ [Hh Ht HsH]
  · isplitl [Hh]; · iexact Hh
    isplitl [Ht]; · iexact Ht
    iexact HsH
  iintro HfH
  iapply (Transfers.wp_dmaLocal countersEmb 𝒱₀ (thr d L) none (src := xU L u) (dst := bHead (slot u)) (default : HIx 1) (nHead (slot u)) rfl (View.dmaCredit_pos _ (by decide)) (Finset.Subset.refl _)) $$ [Hx Hd HsX]
  · isplitl [Hx]; · iexact Hx
    isplitl [Hd]; · iexact Hd
    iexact HsX
  iintro HfX
  iapply Hk
  isplitl [HfH]
  · iapply (Transfers.Flight_mono countersEmb (thr d L) ?_) $$ HfH
    iintro ⟨Ht, Hh⟩
    isplitl [Ht]
    · iexists _; isplitr
      swap; · iexact Ht
      ipureintro; exact tail_value H L u f
    iexact Hh
  isplitl [HfX]
  · iapply (Transfers.Flight_mono countersEmb (thr d L) ?_) $$ HfX
    iintro ⟨Ht, Hh⟩
    isplitl [Ht]
    · iexists _; isplitr
      swap; · iexact Ht
      ipureintro; exact head_value X L u f
    iexact Hh
  isplitl [HsO]; · iexact HsO
  iexact Ho

/-- Waiting for them and starting the copy out takes the unit loading and leaves it storing. -/
theorem collect_run (u : Fin 32) (k : TProg F L) {Q : PUnit.{1} → sProp 𝕄} {O : CellTallies nD τ sig (HIx 1)} {W : Waits sig (HIx 1)} (hO : ∀ g, O g none = 0) :
    iprop(Loading X H Z d L u ∗ Owing (F := F) d L O W ∗ ((Storing X H d L u ∗ Owing (F := F) d L O W) -∗ Run d L k Q)) ⊢ Run d L (collect L u k) Q := by
  unfold Loading Storing Owing collect
  iintro ⟨⟨HfH, HfX, HsO, Ho⟩, ⟨#Hlv, %W', %hW', HO⟩, Hk⟩
  ihave Hmw := (show levAts (K (F := F)).L (K (F := F)).lev ⊢ Transfers.MayWaits (thr d L) (default : HIx 1) O from
    (K (F := F)).mayWaits_none (thr := thr d L) hO) $$ Hlv
  iapply (Transfers.wp_waitLocalO countersEmb 𝒱₀ (thr d L) none (default : HIx 1) (rfl : (bTail (slot u)).view.dmaCredit = _)) $$ [HfH HO]
  · isplitl [HfH]; · iexact HfH
    isplitl [HO]; · iexact HO
    iapply (Transfers.MayWaits.elim (SemLoc.dma (semH (slot u)))) $$ Hmw
  iintro ⟨⟨⟨%g, %hg, Ht⟩, Hh⟩, HsH, HO⟩
  iapply (Transfers.wp_waitLocalO countersEmb 𝒱₀ (thr d L) none (default : HIx 1) (rfl : (bHead (slot u)).view.dmaCredit = _)) $$ [HfX HO]
  · isplitl [HfX]; · iexact HfX
    isplitl [HO]; · iexact HO
    iapply (Transfers.MayWaits.elim (SemLoc.dma (semX (slot u)))) $$ Hmw
  iintro ⟨⟨⟨%f, %hf, Hd⟩, Hx⟩, HsX, HO⟩
  ihave Hb := (show iprop((bLoc d L ↦[((bTail (slot u)).view.set : Finset S3x32x8x128.Idx)]{fullShare} g) ∗ bLoc d L ↦[((bHead (slot u)).view.set : Finset S3x32x8x128.Idx)]{fullShare} f)
      ⊢ (bLoc d L ↦[bSet (slot u)]{fullShare} (((bHead (slot u)).view.set : Finset S3x32x8x128.Idx).piecewise f g) : sProp 𝕄) from
    (pointsTo_join (tail_head_disjoint (slot u))).trans (Entails.of_eq (by rw [tail_head_union]))) $$ [Ht Hd]
  · isplitl [Ht] <;> iassumption
  iapply (Transfers.wp_dmaLocal countersEmb 𝒱₀ (thr d L) none (src := bFull (slot u)) (dst := oU L u) (default : HIx 1) (nFull L u) rfl (View.dmaCredit_pos _ (by decide)) (Finset.Subset.refl _)) $$ [Hb Ho HsO]
  · isplitl [Hb]; · iexact Hb
    isplitl [Ho]; · iexact Ho
    iexact HsO
  iintro HfO
  iapply Hk
  isplitr [HO]
  · isplitl [HfO]
    · iapply (Transfers.Flight_mono countersEmb (thr d L) ?_) $$ HfO
      iintro ⟨Ho, Hb⟩
      isplitl [Ho]
      · iapply (Entails.of_eq (pointsTo_congr (full_value X H L u g f Z hg hf _ (fun i hi => Finset.piecewise_eq_of_mem _ _ _ hi)
          (fun i hi => Finset.piecewise_eq_of_notMem _ _ _ hi)))) $$ Ho
      iexists _; iexact Hb
    isplitl [HsH]; · iexact HsH
    isplitl [HsX]; · iexact HsX
    isplitl [Hx]; · iexact Hx
    iexact Hh
  isplitr; · iexact Hlv
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

/-- Waiting for the copy out takes the unit storing and leaves its slot idle and the unit done. -/
theorem drain_run (u : Fin 32) (k : TProg F L) {Q : PUnit.{1} → sProp 𝕄} {O : CellTallies nD τ sig (HIx 1)} {W : Waits sig (HIx 1)} (hO : ∀ g, O g none = 0) :
    iprop(Storing X H d L u ∗ Owing (F := F) d L O W ∗ ((Idle (F := F) d L (slot u) ∗ Done X H d L u ∗ Owing (F := F) d L O W) -∗ Run d L k Q))
      ⊢ Run d L (drain L u k) Q := by
  unfold Storing Idle Owing drain
  iintro ⟨⟨HfO, HsH, HsX, Hx, Hh⟩, ⟨#Hlv, %W', %hW', HO⟩, Hk⟩
  ihave Hmw := (show levAts (K (F := F)).L (K (F := F)).lev ⊢ Transfers.MayWaits (thr d L) (default : HIx 1) O from
    (K (F := F)).mayWaits_none (thr := thr d L) hO) $$ Hlv
  iapply (Transfers.wp_waitLocalO countersEmb 𝒱₀ (thr d L) none (default : HIx 1) (rfl : (oU L u).view.dmaCredit = _)) $$ [HfO HO]
  · isplitl [HfO]; · iexact HfO
    isplitl [HO]; · iexact HO
    iapply (Transfers.MayWaits.elim (SemLoc.dma (semO (slot u)))) $$ Hmw
  iintro ⟨⟨Ho, Hb⟩, HsO, HO⟩
  iapply Hk
  isplitl [Hb HsH HsX HsO]
  · isplitl [Hb]; · iexact Hb
    isplitl [HsH]; · iexact HsH
    isplitl [HsX]; · iexact HsX
    iexact HsO
  isplitl [Hx Hh Ho]
  · isplitl [Hx]; · iexact Hx
    isplitl [Hh]; · iexact Hh
    iexact Ho
  isplitr; · iexact Hlv
  iexists _; isplitr
  swap; · iexact HO
  ipureintro; intro p hp
  rcases Finset.mem_insert.mp hp with hp | hp; · exact .inr (hp ▸ rfl)
  exact hW' p hp

end Steps

end Cert.Proof.Push

end
-- ==== Proof.Body.lean ====
/-
  A tile's whole task: by induction over the turns of its loop, all its 32 units are done at the end and its ring is idle.
-/
module

public import proofs.«01_k».proof.Proof.Steps

@[expose] public section

noncomputable section

namespace Cert.Proof.Push

open Cert.KernelIdeal Cert.KernelIdeal.Gen

open Idealize.ShloMosaic Idealize.ShloMosaic.ValueIdx
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (X : S64x64x8x128.Idx → Elt F .f32) (H : S512x64x8x128.Idx → Elt F .f32) (Z : S512x64x8x128.Idx → Elt F .f32)

/-! ## The units to do and those done, as the loop goes -/

/-- The units from number `n` on, and those below it. -/
abbrev From (n : ℕ) : Finset (Fin 32) := Finset.univ.filter fun u => n ≤ u.val
/-- The units with a number below `n`. -/
abbrev Below (n : ℕ) : Finset (Fin 32) := Finset.univ.filter fun u => u.val < n

/-- The units from `u` on are `u` and the units after it. -/
theorem from_step (u : Fin 32) : From u.val = insert u (From (u.val + 1)) := by
  ext v
  simp only [Finset.mem_filter, Finset.mem_univ, true_and, Finset.mem_insert, Fin.ext_iff]
  omega
/-- A unit is not among those after it. -/
theorem not_mem_from (u : Fin 32) : u ∉ From (u.val + 1) := by
  simp
/-- The units up to `u` are `u` and the units below it. -/
theorem below_step (u : Fin 32) : Below (u.val + 1) = insert u (Below u.val) := by
  ext v
  simp only [Finset.mem_filter, Finset.mem_univ, true_and, Finset.mem_insert, Fin.ext_iff]
  omega
/-- A unit is not among those below it. -/
theorem not_mem_below (u : Fin 32) : u ∉ Below u.val := by
  simp
/-- No unit lies below 0. -/
theorem below_zero : Below 0 = ∅ := by
  ext v; simp
/-- Every unit lies from 0 on. -/
theorem from_zero : From 0 = Finset.univ := by
  ext v; simp
/-- Every unit lies below 32. -/
theorem below_all : Below 32 = Finset.univ := by
  ext v; simp
/-- No unit lies from 32 on. -/
theorem from_all : From 32 = ∅ := by
  ext v; simp

section Tile

variable [FloatOps F] (d : Dev nD) (L : grid0.Coords)

/-- The units from `n` on, not yet begun. -/
abbrev TodoFrom (n : ℕ) : sProp 𝕄 := bigSep (From n) fun u => Todo X H Z d L u
/-- The units below `n`, done. -/
abbrev DoneBelow (n : ℕ) : sProp 𝕄 := bigSep (Below n) fun u => Done X H d L u

/-- The first of the units to do is taken off. -/
theorem todo_take (u : Fin 32) {n : ℕ} (h : u.val = n) : (TodoFrom X H Z d L n : sProp 𝕄) = iprop(Todo X H Z d L u ∗ TodoFrom X H Z d L (n + 1)) := by
  subst h
  rw [TodoFrom, from_step, SparseCore.bigSep_insert' (not_mem_from u)]
/-- One more unit is done. -/
theorem done_put (u : Fin 32) {n : ℕ} (h : u.val = n) : (DoneBelow X H d L (n + 1) : sProp 𝕄) = iprop(Done X H d L u ∗ DoneBelow X H d L n) := by
  subst h
  rw [DoneBelow, below_step, SparseCore.bigSep_insert' (not_mem_below u)]

/-- What the task leaves: every unit done, the ring idle, what is owed. -/
def Left (O : CellTallies nD τ sig (HIx 1)) (W : Waits sig (HIx 1)) : sProp 𝕄 :=
  iprop(DoneBelow X H d L 32 ∗ (Idle (F := F) d L 0 ∗ Idle (F := F) d L 1 ∗ Idle (F := F) d L 2) ∗ Owing (F := F) d L O W)

/-- The end of the task: the last unit collected, the last three drained. -/
theorem end_run {O : CellTallies nD τ sig (HIx 1)} {W : Waits sig (HIx 1)} (hO : ∀ g, O g none = 0) :
    iprop(Storing X H d L 29 ∗ Storing X H d L 30 ∗ Loading X H Z d L 31 ∗ DoneBelow X H d L 29 ∗ Owing (F := F) d L O W)
      ⊢ Run d L (turns L 0 (Nat.zero_le _)) fun _ => Left X H d L O W := by
  unfold turns
  iintro ⟨H29, H30, H31, Hdone, HO⟩
  iapply (collect_run X H Z d L 31 _ hO)
  isplitl [H31]; · iexact H31
  isplitl [HO]; · iexact HO
  iintro ⟨H31, HO⟩
  iapply (drain_run X H d L 30 _ hO)
  isplitl [H30]; · iexact H30
  isplitl [HO]; · iexact HO
  iintro ⟨I0, D30, HO⟩
  iapply (drain_run X H d L 31 _ hO)
  isplitl [H31]; · iexact H31
  isplitl [HO]; · iexact HO
  iintro ⟨I1, D31, HO⟩
  iapply (drain_run X H d L 29 _ hO)
  isplitl [H29]; · iexact H29
  isplitl [HO]; · iexact HO
  iintro ⟨I2, D29, HO⟩
  unfold Run
  rw [wp_ret]
  imodintro
  unfold Left
  isplitl [Hdone D29 D30 D31]
  · rw [done_put X H d L 31 (n := 31) rfl, done_put X H d L 30 (n := 30) rfl, done_put X H d L 29 (n := 29) rfl]
    isplitl [D31]; · iexact D31
    isplitl [D30]; · iexact D30
    isplitl [D29]; · iexact D29
    iexact Hdone
  isplitr [HO]
  · isplitl [I0]; · iexact I0
    isplitl [I1]; · iexact I1
    iexact I2
  iexact HO

/-- The loop's last `n` turns and the end, from two units storing and one loading. -/
theorem turns_run {O : CellTallies nD τ sig (HIx 1)} {W : Waits sig (HIx 1)} (hO : ∀ g, O g none = 0) : ∀ (n : ℕ) (h : n ≤ 29),
    iprop(Storing X H d L (un (29 - n)) ∗ Storing X H d L (un (30 - n)) ∗ Loading X H Z d L (un (31 - n))
        ∗ TodoFrom X H Z d L (32 - n) ∗ DoneBelow X H d L (29 - n) ∗ Owing (F := F) d L O W)
      ⊢ Run d L (turns L n h) fun _ => Left X H d L O W
  | 0, _ => by
    iintro ⟨H29, H30, H31, -, Hdone, HO⟩
    iapply (end_run X H Z d L hO)
    isplitl [H29]; · iexact H29
    isplitl [H30]; · iexact H30
    isplitl [H31]; · iexact H31
    isplitl [Hdone]; · iexact Hdone
    iexact HO
  | n + 1, h => by
    have b28 : 28 - n < 32 := by omega
    have b29 : 29 - n < 32 := by omega
    have b30 : 30 - n < 32 := by omega
    have b31 : 31 - n < 32 := by omega
    have hn : n ≤ 29 := by omega
    have hs : slot (un (28 - n) b28) = slot (un (31 - n) b31) := Fin.ext (show (28 - n) % 3 = (31 - n) % 3 by omega)
    rw [show un (29 - (n + 1)) _ = un (28 - n) b28 from Fin.ext (show 29 - (n + 1) = 28 - n by omega),
      show un (30 - (n + 1)) _ = un (29 - n) b29 from Fin.ext (show 30 - (n + 1) = 29 - n by omega),
      show un (31 - (n + 1)) _ = un (30 - n) b30 from Fin.ext (show 31 - (n + 1) = 30 - n by omega)]
    unfold turns
    iintro ⟨Ha, Hb, Hc, Htodo, Hdone, HO⟩
    iapply (drain_run X H d L (un (28 - n) b28) _ hO)
    isplitl [Ha]; · iexact Ha
    isplitl [HO]; · iexact HO
    iintro ⟨Hi, Hd, HO⟩
    ihave Htodo := (Entails.of_eq (todo_take X H Z d L (un (31 - n) b31) (n := 32 - (n + 1)) (show 31 - n = 32 - (n + 1) by omega))) $$ Htodo
    icases Htodo with ⟨Hu, Htodo⟩
    ihave Hdone := (Entails.of_eq (done_put X H d L (un (28 - n) b28) (n := 29 - (n + 1)) (show 28 - n = 29 - (n + 1) by omega)).symm) $$ [Hd Hdone]
    · isplitl [Hd] <;> iassumption
    iapply (issue_run X H Z d L (un (31 - n) b31) _)
    isplitl [Hi]; · rw [← hs]; iexact Hi
    isplitl [Hu]; · iexact Hu
    iintro Hu
    iapply (collect_run X H Z d L (un (30 - n) b30) _ hO)
    isplitl [Hc]; · iexact Hc
    isplitl [HO]; · iexact HO
    iintro ⟨Hc, HO⟩
    iapply (turns_run hO n hn)
    have e1 : (29 - (n + 1) + 1) = 29 - n := by omega
    have e2 : 32 - (n + 1) + 1 = 32 - n := by omega
    isplitl [Hb]; · iexact Hb
    isplitl [Hc]; · iexact Hc
    isplitl [Hu]; · iexact Hu
    isplitl [Htodo]; · rw [← e2]; iexact Htodo
    isplitl [Hdone]; · rw [← e1]; iexact Hdone
    iexact HO

/-- The task: from an idle ring and every unit to do, to every unit done and the ring idle. -/
theorem task_run {O : CellTallies nD τ sig (HIx 1)} {W : Waits sig (HIx 1)} (hO : ∀ g, O g none = 0) :
    iprop((bigSep Finset.univ fun u => Todo X H Z d L u) ∗ (Idle (F := F) d L 0 ∗ Idle (F := F) d L 1 ∗ Idle (F := F) d L 2) ∗ Owing (F := F) d L O W)
      ⊢ Run d L (task L) fun _ => Left X H d L O W := by
  unfold task
  iintro ⟨Htodo, ⟨I0, I1, I2⟩, HO⟩
  ihave Htodo := (Entails.of_eq (show (bigSep Finset.univ fun u => Todo X H Z d L u : sProp 𝕄)
      = iprop(Todo X H Z d L 0 ∗ Todo X H Z d L 1 ∗ Todo X H Z d L 2 ∗ TodoFrom X H Z d L 3) by
    rw [← from_zero, ← todo_take X H Z d L 2 (n := 2) rfl, ← todo_take X H Z d L 1 (n := 1) rfl, ← todo_take X H Z d L 0 (n := 0) rfl])) $$ Htodo
  icases Htodo with ⟨T0, T1, T2, Htodo⟩
  iapply (issue_run X H Z d L 0 _)
  isplitl [I0]; · iexact I0
  isplitl [T0]; · iexact T0
  iintro H0
  iapply (issue_run X H Z d L 1 _)
  isplitl [I1]; · iexact I1
  isplitl [T1]; · iexact T1
  iintro H1
  iapply (collect_run X H Z d L 0 _ hO)
  isplitl [H0]; · iexact H0
  isplitl [HO]; · iexact HO
  iintro ⟨H0, HO⟩
  iapply (issue_run X H Z d L 2 _)
  isplitl [I2]; · iexact I2
  isplitl [T2]; · iexact T2
  iintro H2
  iapply (collect_run X H Z d L 1 _ hO)
  isplitl [H1]; · iexact H1
  isplitl [HO]; · iexact HO
  iintro ⟨H1, HO⟩
  iapply (turns_run X H Z d L hO 29 le_rfl)
  isplitl [H0]; · iexact H0
  isplitl [H1]; · iexact H1
  isplitl [H2]; · iexact H2
  isplitl [Htodo]; · iexact Htodo
  isplitr
  · rw [DoneBelow, below_zero, bigSep_empty]; iempintro
  iexact HO

end Tile

end Cert.Proof.Push

end
-- ==== Proof.Tile.lean ====
/-
  The task as the launch runs it: a tile's own storage holds its ring and its nine transfer counters; from them and the
  tile's units of work the task runs, and gives them back.
-/
module

public import proofs.«01_k».proof.Proof.Body

@[expose] public section

noncomputable section

namespace Cert.Proof.Push

open Cert.KernelIdeal Cert.KernelIdeal.Gen

open Idealize.ShloMosaic Idealize.ShloMosaic.ValueIdx
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The facts the launch asks of the program's semaphores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- What holds of each of three things holds of all of them, one by one. -/
theorem three (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide),
    SparseCore.bigSep_insert' (by decide), bigSep_singleton]

section Storage

variable (d : Dev nD) (L : grid0.Coords)

/-! ## The nine counters -/

/-- The counter of slot `p.1` that is the `p.2`-th of the slot's three. -/
def ctr (p : Fin 3 × Fin 3) : DmaSem sig := match p.2 with | 0 => semH p.1 | 1 => semX p.1 | 2 => semO p.1

/-- The nine counters are different ones. -/
theorem ctr_injective : Function.Injective ctr := by
  have h : ∀ p q : Fin 3 × Fin 3, ctr p = ctr q → p = q := by decide +kernel
  exact fun p q => h p q
/-- They are a vector subcore's own. -/
theorem ctr_scoped : ∀ p : Fin 3 × Fin 3, (SemLoc.dma (ctr p) : SemLoc sig).isScoped .scVector = true := by decide +kernel

/-- The cells of the tile's nine semaphores. -/
abbrev ctrCell (p : Fin 3 × Fin 3) : GSem nD τ sig := (thr d L, .dma (ctr p))
abbrev ctrCells : Finset (GSem nD τ sig) := (Finset.univ : Finset (Fin 3 × Fin 3)).image (ctrCell d L)

/-- They are nine different cells. -/
theorem ctrCell_injective : Function.Injective (ctrCell d L) := fun _ _ h => ctr_injective (SemLoc.dma.inj (Prod.mk.inj h).2)

/-- They are among the tile's own. -/
theorem ctrCells_sub : ctrCells d L ⊆ ownCells (thr d L) := by
  intro g hg
  obtain ⟨p, -, rfl⟩ := Finset.mem_image.mp hg
  exact mem_ownCells.mpr ⟨rfl, ctr_scoped p⟩

/-- A slot's three counters at zero. -/
abbrev Zeros (j : Fin 3) : sProp 𝕄 :=
  iprop(semVal (thr d L, .dma (semH j)) 0 ∗ semVal (thr d L, .dma (semX j)) 0 ∗ semVal (thr d L, .dma (semO j)) 0)

/-- The tile's own counters at zero are the three slots' and others. -/
theorem ownSems0_slots : (ownSems0 (thr d L) : sProp 𝕄)
    = iprop((bigSep Finset.univ fun j => Zeros (F := F) d L j) ∗ bigSep (ownCells (thr d L) \ ctrCells d L) fun g => semVal g 0) := by
  unfold SparseCore.Cfg.ownSems0
  rw [SparseCore.bigSep_sdiff_split' (ctrCells_sub d L), SparseCore.bigSep_image_of_injOn (ctrCell_injective d L).injOn,
    ← Finset.univ_product_univ, SparseCore.bigSep_product]
  congr 1
  exact bigSep_congr fun j _ => three _

/-! ## The ring -/

/-- A slot's elements at some contents. -/
abbrev Slot (j : Fin 3) : sProp 𝕄 := iprop(∃ f : S3x32x8x128.Idx → Elt F .f32, bLoc d L ↦[bSet j]{fullShare} f)

/-- The ring, as the device names it. -/
abbrev ringRef : DevRef τ sig := (Proc.scVector (cV L) (jV L)).devRef cc0_scratch0

/-- The tile's own buffers are its ring and others. -/
theorem ownBufs_ring : (ownBufs (thr d L) : sProp 𝕄)
    = iprop((∃ f, bLoc d L ↦{fullShare} f)
        ∗ bigSep ((ownRefs (τ := τ) (.scVector (cV L) (jV L))).erase (ringRef L)) fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L)) (b := ringRef L) rfl)

/-- A slot at any contents is a slot. -/
theorem slot_of (j : Fin 3) (f : S3x32x8x128.Idx → Elt F .f32) : (bLoc d L ↦[bSet j]{fullShare} f : sProp 𝕄) ⊢ Slot (F := F) d L j := by
  iintro H
  iexists f; iexact H

/-- The ring is its three slots. -/
theorem ring_split : (iprop(∃ f, bLoc d L ↦{fullShare} f) : sProp 𝕄) ⊢ bigSep Finset.univ fun j => Slot (F := F) d L j := by
  iintro ⟨%f, H⟩
  iapply (show (bLoc d L ↦{fullShare} f : sProp 𝕄) ⊢ bigSep Finset.univ fun j => Slot (F := F) d L j from ?_) $$ H
  refine (Entails.of_eq (show (bLoc d L ↦{fullShare} f : sProp 𝕄) = bigSep Finset.univ fun j : Fin 3 => bLoc d L ↦[bSet j]{fullShare} f by
    rw [← pointsTo_biUnion Finset.univ (ℓ := bLoc d L) bSet (fun _ _ _ _ h => bFull_disjoint h), bFull_cover])).trans ?_
  exact bigSep_mono fun j _ => slot_of d L j f

/-- The three slots together are the ring, at some contents. -/
theorem ring_join : (bigSep Finset.univ fun j => Slot (F := F) d L j) ⊢ (iprop(∃ f, bLoc d L ↦{fullShare} f) : sProp 𝕄) := by
  refine (Entails.of_eq (three _)).trans ?_
  iintro ⟨⟨%f0, H0⟩, ⟨%f1, H1⟩, ⟨%f2, H2⟩⟩
  ihave H := (Entails.of_eq (three fun j : Fin 3 => (bLoc d L ↦[bSet j]{fullShare} ((match j with | 0 => f0 | 1 => f1 | 2 => f2) : S3x32x8x128.Idx → Elt F .f32) : sProp 𝕄)).symm) $$ [H0 H1 H2]
  · isplitl [H0]; · iexact H0
    isplitl [H1]; · iexact H1
    iexact H2
  ihave H := (pointsTo_biUnion_join (ℓ := bLoc d L) (q := fullShare) (Val := Elt F) Finset.univ bSet _ f0 (fun _ _ _ _ h => bFull_disjoint h)) $$ H
  icases H with ⟨%g, -, H⟩
  rw [bFull_cover]
  iexists g; iexact H

/-- Slots and their counters, kept apart or together. -/
theorem idle_all : iprop((bigSep Finset.univ fun j => Slot (F := F) d L j) ∗ (bigSep Finset.univ fun j => Zeros (F := F) d L j))
    = iprop(Idle (F := F) d L 0 ∗ Idle (F := F) d L 1 ∗ Idle (F := F) d L 2) := by
  rw [← bigSep_sep', ← three]
  rfl

end Storage

section Tile

variable (X : S64x64x8x128.Idx → Elt F .f32) (H : S512x64x8x128.Idx → Elt F .f32) (Z : S512x64x8x128.Idx → Elt F .f32)
variable [FloatOps F] (d : Dev nD) (L : grid0.Coords)

/-- The kernel's task on a tile: from its units to do and its own storage, to its units done and its storage again. -/
theorem tile_body (O : CellTallies nD τ sig (HIx 1)) (W : Waits sig (HIx 1)) (hO : ∀ g, O g none = 0) :
    iprop(levAts (K (F := F)).L (K (F := F)).lev ∗ emp ∗ (bigSep Finset.univ fun u => Todo X H Z d L u)
        ∗ scopedBufs (thr d L) ∗ scopedSems0 (thr d L) ∗ owes (thr d L) O W)
      ⊢ wp frame (wpE (defs₀ (F := F)) 𝒱₀ (thr d L) none) Set.univ
          (cc0_push L xV (Memref.isWhole_whole _) hV (Memref.isWhole_whole _) oV (Memref.isWhole_whole _) bV (Memref.isWhole_whole _)
            cc0_scratch1 cc0_scratch2 cc0_scratch3)
          fun _ => iprop((bigSep Finset.univ fun u => Done X H d L u) ∗ scopedBufs (thr d L) ∗ scopedSems0 (thr d L)
            ∗ ∃ W', ⌜∀ p ∈ W', p ∈ W ∨ p.2 = none⌝ ∗ owes (thr d L) O W') := by
  rw [push_eq_task, (K (F := F)).scopedBufs_V facts d (cV L) (jV L), SparseCore.Cfg.scopedSems0_V (Val := Elt F) d (cV L) (jV L),
    ownSems0_slots, ownBufs_ring]
  iintro ⟨#Hlv, -, Htodo, ⟨Hring, Hbufs⟩, ⟨Hz, Hsems⟩, HO⟩
  ihave Hslots := (ring_split (F := F) d L) $$ Hring
  ihave Hidle := (Entails.of_eq (idle_all (F := F) d L)) $$ [Hslots Hz]
  · isplitl [Hslots] <;> iassumption
  iapply (wp_wand frame _ _) $$ [Htodo Hidle HO] [Hbufs Hsems]
  · iapply (task_run X H Z d L hO)
    isplitl [Htodo]; · iexact Htodo
    isplitl [Hidle]; · iexact Hidle
    unfold Owing
    isplitr; · iexact Hlv
    iexists W; isplitr
    · ipureintro; exact fun p hp => .inl hp
    iexact HO
  iintro %_ H
  unfold Left Owing
  icases H with ⟨Hdone, Hidle, -, HO⟩
  ihave H := (Entails.of_eq (idle_all (F := F) d L).symm) $$ Hidle
  icases H with ⟨Hslots, Hz⟩
  ihave Hring := (ring_join (F := F) d L) $$ Hslots
  isplitl [Hdone]; · iapply (Entails.of_eq (by rw [DoneBelow, below_all])) $$ Hdone
  isplitl [Hring Hbufs]
  · isplitl [Hring] <;> iassumption
  isplitl [Hz Hsems]
  · isplitl [Hz] <;> iassumption
  iexact HO

end Tile

end Cert.Proof.Push

end
-- ==== Proof.Launch.lean ====
/-
  The launch: the three arrays split into the units of work, every tile's task runs on its units, and the output is back
  whole at the kernel's value.
-/
module

public import proofs.«01_k».proof.Proof.Tile

@[expose] public section

noncomputable section

namespace Cert.Proof.Push

open Cert.KernelIdeal Cert.KernelIdeal.Gen

open Idealize.ShloMosaic Idealize.ShloMosaic.ValueIdx
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays as their units' parts -/

section Split

variable (X : S64x64x8x128.Idx → Elt F .f32) (H : S512x64x8x128.Idx → Elt F .f32) (Z : S512x64x8x128.Idx → Elt F .f32)
variable (d : Dev nD)

/-- A statement about each unit of work, core by core, subcore by subcore. -/
theorem works (Φ : Work → sProp 𝕄) :
    bigSep Finset.univ Φ = bigSep Finset.univ fun c : Fin 2 => bigSep Finset.univ fun s : Fin 16 => bigSep Finset.univ fun u : Fin 32 => Φ (c, s, u) := by
  rw [← Finset.univ_product_univ, SparseCore.bigSep_product]
  refine bigSep_congr fun c _ => ?_
  rw [← Finset.univ_product_univ, SparseCore.bigSep_product]

/-- The elements of the activations and of the history that no unit reads. -/
abbrev xElse : Finset S64x64x8x128.Idx := Finset.univ \ (Finset.univ : Finset Work).biUnion fun t => xSet t.tile t.2.2
/-- The elements of the history that no unit reads: the last entry of every row. -/
abbrev hElse : Finset S512x64x8x128.Idx := Finset.univ \ (Finset.univ : Finset Work).biUnion fun t => hSet t.tile t.2.2

/-- The activations are the parts of all the units of work and what none of them reads. -/
theorem x_whole : (xLoc d ↦{fullShare} X : sProp 𝕄)
    = iprop((bigSep Finset.univ fun t : Work => xPart X d t.tile t.2.2) ∗ xLoc d ↦[xElse]{fullShare} X) := by
  rw [← pointsTo_biUnion Finset.univ (ℓ := xLoc d) (fun t : Work => xSet t.tile t.2.2) (fun _ _ _ _ h => xU_disjoint h)]
  have h := pointsTo_split_subset (Ix := HIx 1) (Name := ℕ) (U := UU) (Lvl := ℕ) (ℓ := xLoc d) (q := fullShare) (f := X) (Finset.subset_univ ((Finset.univ : Finset Work).biUnion fun t => xSet t.tile t.2.2))
  exact BI.equiv_iff.mp ⟨h.1, h.2⟩
/-- The history is the parts of all the units of work and what none of them reads. -/
theorem h_whole : (hLoc d ↦{fullShare} H : sProp 𝕄)
    = iprop((bigSep Finset.univ fun t : Work => hPart H d t.tile t.2.2) ∗ hLoc d ↦[hElse]{fullShare} H) := by
  rw [← pointsTo_biUnion Finset.univ (ℓ := hLoc d) (fun t : Work => hSet t.tile t.2.2) (fun _ _ _ _ h => hU_disjoint h)]
  have h := pointsTo_split_subset (Ix := HIx 1) (Name := ℕ) (U := UU) (Lvl := ℕ) (ℓ := hLoc d) (q := fullShare) (f := H) (Finset.subset_univ ((Finset.univ : Finset Work).biUnion fun t => hSet t.tile t.2.2))
  exact BI.equiv_iff.mp ⟨h.1, h.2⟩
/-- The output is exactly the parts of all the units of work. -/
theorem o_whole : (oLoc d ↦{fullShare} Z : sProp 𝕄) = bigSep Finset.univ fun t : Work => oPart d t.tile t.2.2 Z := by
  rw [← pointsTo_biUnion Finset.univ (ℓ := oLoc d) (fun t : Work => oSet t.tile t.2.2) (fun _ _ _ _ h => oU_disjoint h), oU_cover]

/-- The three arrays whole are every unit's parts and the elements no unit reads. -/
theorem arrays_split : iprop((xLoc d ↦{fullShare} X) ∗ (hLoc d ↦{fullShare} H) ∗ oLoc d ↦{fullShare} Z)
    ⊢ (iprop((bigSep Finset.univ fun t : Work => Todo X H Z d t.tile t.2.2) ∗ (xLoc d ↦[xElse]{fullShare} X) ∗ hLoc d ↦[hElse]{fullShare} H) : sProp 𝕄) := by
  rw [x_whole, h_whole, o_whole, bigSep_sep', bigSep_sep']
  iintro ⟨⟨Hx, Hx'⟩, ⟨Hh, Hh'⟩, Ho⟩
  isplitl [Hx Hh Ho]
  · isplitl [Hx]; · iexact Hx
    isplitl [Hh] <;> iassumption
  isplitl [Hx'] <;> iassumption

/-- And together again, the output at the kernel's value. -/
theorem arrays_join : iprop((bigSep Finset.univ fun t : Work => Done X H d t.tile t.2.2) ∗ (xLoc d ↦[xElse]{fullShare} X) ∗ hLoc d ↦[hElse]{fullShare} H)
    ⊢ (iprop((xLoc d ↦{fullShare} X) ∗ (hLoc d ↦{fullShare} H) ∗ oLoc d ↦{fullShare} pushed X H) : sProp 𝕄) := by
  rw [x_whole, h_whole, o_whole, bigSep_sep', bigSep_sep']
  iintro ⟨⟨Hx, Hh, Ho⟩, Hx', Hh'⟩
  isplitl [Hx Hx']
  · isplitl [Hx] <;> iassumption
  isplitl [Hh Hh']
  · isplitl [Hh] <;> iassumption
  iexact Ho

end Split

/-! ## What the call hands over -/

section Call

variable (X : Dev nD → S64x64x8x128.Idx → Elt F .f32) (H : Dev nD → S512x64x8x128.Idx → Elt F .f32) (Z : Dev nD → S512x64x8x128.Idx → Elt F .f32)

/-- A tile's units to do, and done. -/
abbrev tileTodo (d : Dev nD) (c : Fin 2) (s : Fin 16) : sProp 𝕄 := bigSep Finset.univ fun u => Todo (X d) (H d) (Z d) d (coords c s) u
/-- What a tile hands back: all its units done. -/
abbrev tileDone (d : Dev nD) (c : Fin 2) (s : Fin 16) : sProp 𝕄 := bigSep Finset.univ fun u => Done (X d) (H d) d (coords c s) u

/-- Each SparseCore is handed its tiles' units, each tile its own. -/
def P : (K (F := F)).Pay (nD := nD) (Val := Elt F) (Name := ℕ) (U := UU) where
  st := fun q d c => match q with | 0 => bigSep Finset.univ fun s : Fin 16 => tileTodo X H Z d c s
  dn := fun q d c => match q with | 0 => bigSep Finset.univ fun s : Fin 16 => tileDone X H d c s
  go := fun q d c s => match q with | 0 => tileTodo X H Z d c s
  td := fun q d c s => match q with | 0 => tileDone X H d c s
  x := fun _ _ => iprop(emp)

/-- Everything handed over can be kept in a semaphore cell meanwhile. -/
instance P_storable : (P X H Z).IsStorable where
  st q d c := match q with
    | 0 => (inferInstance : BI.Storable (upEmb : UEmb _ 𝕄) (bigSep Finset.univ fun s : Fin 16 => tileTodo X H Z d c s))
  dn q d c := match q with
    | 0 => (inferInstance : BI.Storable (upEmb : UEmb _ 𝕄) (bigSep Finset.univ fun s : Fin 16 => tileDone X H d c s))
  go q d c s := match q with
    | 0 => (inferInstance : BI.Storable (upEmb : UEmb _ 𝕄) (tileTodo X H Z d c s))
  td q d c s := match q with
    | 0 => (inferInstance : BI.Storable (upEmb : UEmb _ 𝕄) (tileDone X H d c s))

/-- What the call hands to all the cores, written out. -/
theorem st0_eq (d : Dev nD) : (bigSep Finset.univ fun c : Fin ((K (F := F)).nCore 0) => (P X H Z).st 0 d c)
    = bigSep Finset.univ fun t : Work => Todo (X d) (H d) (Z d) d t.tile t.2.2 := by
  rw [works]; rfl
/-- What all the cores hand back, written out. -/
theorem dn0_eq (d : Dev nD) : (bigSep Finset.univ fun c : Fin ((K (F := F)).nCore 0) => (P X H Z).dn 0 d c)
    = bigSep Finset.univ fun t : Work => Done (X d) (H d) d t.tile t.2.2 := by
  rw [works]; rfl

/-- A SparseCore's part of the call is its tiles' parts. -/
theorem vecSplit : (K (F := F)).VecSplit' (P X H Z) 0 := by
  intro d c
  show (bigSep Finset.univ fun s : Fin 16 => tileTodo X H Z d c s) ⊢ |={Set.univ}=> iprop(
      (bigSep Finset.univ fun s : Fin 16 => tileTodo X H Z d c s)
      ∗ ((bigSep Finset.univ fun s : Fin 16 => tileDone X H d c s) -∗ bigSep Finset.univ fun s : Fin 16 => tileDone X H d c s))
  iintro H; imodintro
  isplitl [H]; · iexact H
  iintro H; iexact H

variable [FloatOps F]

/-- The body a tile runs is the kernel's task at that tile. -/
theorem defs₀_vector (c : Fin τ.nSC) (s : Fin τ.nSub) :
    defs₀ (F := F) (.scVector c s) 0 ()
      = SparseCore.onTile hcore0 hsub0 (fun c s => cc0_push (coords c s)
          xV (Memref.isWhole_whole _) hV (Memref.isWhole_whole _) oV (Memref.isWhole_whole _) bV (Memref.isWhole_whole _)
          cc0_scratch1 cc0_scratch2 cc0_scratch3) ⟨⟩ c s := rfl

/-- What a finished body says of its waits, in the weaker form the launch asks for. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task runs from its units to do to its units done. -/
theorem tileObl : (K (F := F)).TileObl (D (F := F)) 𝒱 (P X H Z) v₀ 0 := by
  intro d c i O W hO _ _
  simp only [show (P X H Z).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (X d) (H d) (Z d) d (coords ⟨_, hci.1⟩ ⟨_, hci.2⟩) O W hO).trans (wp_mono frame _ _ fun _ => obl_post)

/-! ## The launch's ghost state -/

/-- The ghost state at the start: the launch's hand-shake cells, and no counter of a copy. -/
def u₀ : UU := (initOf (K (F := F)).hsCells (K (F := F)).hsToks, 1)

/-- Nothing, once for each of many, is nothing. -/
theorem no_extra {I : Type} (s : Finset I) : (bigSep s fun _ => iprop(emp)) = (iprop(emp) : sProp 𝕄) := bigSep_emp_const s

/-- The starting ghost state gives the hand-shake cells their tokens. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X H Z).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [no_extra]; iempintro
  rw [show (bigSep Finset.univ fun thr : Thread nD τ => bigSep Finset.univ fun q : Fin 1 => (P (F := F) X H Z).x q thr) = bigSep Finset.univ fun _ => iprop(emp) from
    bigSep_congr fun _ _ => bigSep_univ_of_subsingleton (0 : Fin 1), no_extra]
  iempintro

end Call

end Cert.Proof.Push

end
-- ==== Proof.Main.lean ====
/-
  The whole program: the operations before the call, the call, the operations after it, and what the program leaves.
-/
module

public import proofs.«01_k».proof.Proof.Launch

@[expose] public section

noncomputable section

namespace Cert.Proof.Push

open Cert.KernelIdeal Cert.KernelIdeal.Gen

open Idealize.ShloMosaic Idealize.ShloMosaic.ValueIdx
open Idealize.ShloMosaic.StableHlo (held held_sub_split wp_hlo_within)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The arrays and the operations around the call -/

/-- An array of the TensorCore as the device names it. -/
abbrev ref (b : Ref sig .tc) : DevRef τ sig := Proc.devRef .tc b

/-- The history is reshaped to groups of 128 neurons. -/
abbrev op0 : HloOp τ sig (Elt F) := StableHlo.reshape main_arg1 main_v0 (rfl : (.f32 : EltTy) = .f32) shapeCasts_S512x8192x8_S512x64x128x8
/-- Its entries are moved before the neurons of a group. -/
abbrev op1 : HloOp τ sig (Elt F) := StableHlo.unary main_v0 main_v1 ((transpose S512x64x8x128 [0, 1, 3, 2] · transposes_S512x64x128x8_S512x64x8x128_0_1_3_2) : (⟨S512x64x128x8, .f32⟩ : BufTy).Contents (Elt F) → (⟨S512x64x8x128, .f32⟩ : BufTy).Contents (Elt F))
/-- The activations are reshaped to groups of eight rows and groups of 128 neurons. -/
abbrev op2 : HloOp τ sig (Elt F) := StableHlo.reshape main_arg0 main_v2 (rfl : (.f32 : EltTy) = .f32) shapeCasts_S512x8192_S64x8x64x128
/-- The rows of a group are moved behind the groups of neurons. -/
abbrev op3 : HloOp τ sig (Elt F) := StableHlo.unary main_v2 main_v3 ((transpose S64x64x8x128 [0, 2, 1, 3] · transposes_S64x8x64x128_S64x64x8x128_0_2_1_3) : (⟨S64x8x64x128, .f32⟩ : BufTy).Contents (Elt F) → (⟨S64x64x8x128, .f32⟩ : BufTy).Contents (Elt F))
/-- The output's entries are moved back behind the neurons. -/
abbrev op5 : HloOp τ sig (Elt F) := StableHlo.unary main_v4 main_v5 ((transpose S512x64x128x8 [0, 1, 3, 2] · transposes_S512x64x8x128_S512x64x128x8_0_1_3_2) : (⟨S512x64x8x128, .f32⟩ : BufTy).Contents (Elt F) → (⟨S512x64x128x8, .f32⟩ : BufTy).Contents (Elt F))
/-- The output is reshaped to rows of neurons. -/
abbrev op6 : HloOp τ sig (Elt F) := StableHlo.reshape main_v5 main_v6 (rfl : (.f32 : EltTy) = .f32) shapeCasts_S512x64x128x8_S512x8192x8

/-- All the arrays of the program. -/
abbrev All : Finset (DevRef τ sig) :=
  {ref main_arg0, ref main_arg1, ref main_v0, ref main_v1, ref main_v2, ref main_v3, ref main_v4, ref main_v5, ref main_v6}

/-- The first reshape uses only arrays of the program. -/
theorem sub0 : (op0 (F := F)).bufs ⊆ All := show ({ref main_arg1, ref main_v0} : Finset (DevRef τ sig)) ⊆ All by decide
/-- So does the first transpose. -/
theorem sub1 : (op1 (F := F)).bufs ⊆ All := show ({ref main_v0, ref main_v1} : Finset (DevRef τ sig)) ⊆ All by decide
/-- So does the second reshape. -/
theorem sub2 : (op2 (F := F)).bufs ⊆ All := show ({ref main_arg0, ref main_v2} : Finset (DevRef τ sig)) ⊆ All by decide
/-- So does the second transpose. -/
theorem sub3 : (op3 (F := F)).bufs ⊆ All := show ({ref main_v2, ref main_v3} : Finset (DevRef τ sig)) ⊆ All by decide
/-- So does the transpose after the call. -/
theorem sub5 : (op5 (F := F)).bufs ⊆ All := show ({ref main_v4, ref main_v5} : Finset (DevRef τ sig)) ⊆ All by decide
/-- So does the reshape after the call. -/
theorem sub6 : (op6 (F := F)).bufs ⊆ All := show ({ref main_v5, ref main_v6} : Finset (DevRef τ sig)) ⊆ All by decide

/-! ## Their contents as the program goes -/

variable (m : (ℓ : Loc nD τ sig) → Buf (Elt F) ℓ) (ρ : Dev nD → PrngReg)

/-- What the arrays hold at the launch, and after each of the four operations before the call. -/
def V0 (d : Dev nD) : Valuation τ sig (Elt F) := fun b => m (d, b)
def V1 (d : Dev nD) : Valuation τ sig (Elt F) := (op0 (F := F)).result (V0 m d)
def V2 (d : Dev nD) : Valuation τ sig (Elt F) := (op1 (F := F)).result (V1 m d)
def V3 (d : Dev nD) : Valuation τ sig (Elt F) := (op2 (F := F)).result (V2 m d)
def V4 (d : Dev nD) : Valuation τ sig (Elt F) := (op3 (F := F)).result (V3 m d)
/-- The activations, the history and the output as the call finds them. -/
def callX (d : Dev nD) : S64x64x8x128.Idx → Elt F .f32 := V4 m d (ref main_v3)
def callH (d : Dev nD) : S512x64x8x128.Idx → Elt F .f32 := V4 m d (ref main_v1)
def callZ (d : Dev nD) : S512x64x8x128.Idx → Elt F .f32 := V4 m d (ref main_v4)
/-- The call leaves the output at the kernel's value. -/
def V5 (d : Dev nD) : Valuation τ sig (Elt F) := Function.update (V4 m d) (ref main_v4) (pushed (callX m d) (callH m d))
/-- What the arrays hold after the transpose and after the reshape that follow the call. -/
def V6 (d : Dev nD) : Valuation τ sig (Elt F) := (op5 (F := F)).result (V5 m d)
def V7 (d : Dev nD) : Valuation τ sig (Elt F) := (op6 (F := F)).result (V6 m d)

/-- An argument keeps its launch contents throughout. -/
theorem V7_arg (d : Dev nD) (b : DevRef τ sig) (h : b = ref main_arg0 ∨ b = ref main_arg1) : V7 m d b = m (d, b) := by
  unfold V7 V6 V5 V4 V3 V2 V1
  rw [(op6 (F := F)).result_of_not_mem _ (show b ∉ ({ref main_v6} : Finset (DevRef τ sig)) by rcases h with rfl | rfl <;> decide),
    (op5 (F := F)).result_of_not_mem _ (show b ∉ ({ref main_v5} : Finset (DevRef τ sig)) by rcases h with rfl | rfl <;> decide),
    Function.update_of_ne (show b ≠ ref main_v4 by rcases h with rfl | rfl <;> decide),
    (op3 (F := F)).result_of_not_mem _ (show b ∉ ({ref main_v3} : Finset (DevRef τ sig)) by rcases h with rfl | rfl <;> decide),
    (op2 (F := F)).result_of_not_mem _ (show b ∉ ({ref main_v2} : Finset (DevRef τ sig)) by rcases h with rfl | rfl <;> decide),
    (op1 (F := F)).result_of_not_mem _ (show b ∉ ({ref main_v1} : Finset (DevRef τ sig)) by rcases h with rfl | rfl <;> decide),
    (op0 (F := F)).result_of_not_mem _ (show b ∉ ({ref main_v0} : Finset (DevRef τ sig)) by rcases h with rfl | rfl <;> decide)]
  rfl

/-! ## The arrays together -/

/-- At the launch the arrays are held at their launch contents. -/
theorem unscoped_held (d : Dev nD) : (unscopedBufs d (fun b => m ((SparseCore.T d).loc b)) : sProp 𝕄) = held (SparseCore.T d) All (V0 m d) := by
  unfold unscopedBufs held
  rw [show (Finset.univ.filter fun b : Ref sig .tc => ¬ b.isScoped)
      = {main_arg0, main_arg1, main_v0, main_v1, main_v2, main_v3, main_v4, main_v5, main_v6} by decide]
  rw [show All = ({main_arg0, main_arg1, main_v0, main_v1, main_v2, main_v3, main_v4, main_v5, main_v6} : Finset (Ref sig .tc)).image ref by decide,
    SparseCore.bigSep_image_of_injOn (f := ref) (fun _ _ _ _ h => Proc.devRef_injective _ h)]
  rfl

/-- The arrays of the call. -/
abbrev Ours : Finset (DevRef τ sig) := {ref main_v3, ref main_v1, ref main_v4}

/-- Holding the three arrays of the call is holding each of them. -/
theorem held_ours (d : Dev nD) (W : Valuation τ sig (Elt F)) :
    (held (SparseCore.T d) Ours W : sProp 𝕄)
      = iprop((xLoc d ↦{fullShare} W (ref main_v3)) ∗ (hLoc d ↦{fullShare} W (ref main_v1)) ∗ oLoc d ↦{fullShare} W (ref main_v4)) := by
  unfold held Ours
  rw [SparseCore.bigSep_insert' (by decide), SparseCore.bigSep_insert' (by decide), bigSep_singleton]

/-- Before the call: the three arrays of the call, and the others. -/
theorem held_before (d : Dev nD) : (held (SparseCore.T d) All (V4 m d) : sProp 𝕄)
    = iprop(((xLoc d ↦{fullShare} callX m d) ∗ (hLoc d ↦{fullShare} callH m d) ∗ oLoc d ↦{fullShare} callZ m d)
        ∗ held (SparseCore.T d) (All \ Ours) (V4 m d)) := by
  rw [held_sub_split (SparseCore.T d) (show Ours ⊆ All by decide), held_ours]
  rfl

/-- After the call: the same, with the output at its value. -/
theorem held_after (d : Dev nD) : (held (SparseCore.T d) All (V5 m d) : sProp 𝕄)
    = iprop(((xLoc d ↦{fullShare} callX m d) ∗ (hLoc d ↦{fullShare} callH m d) ∗ oLoc d ↦{fullShare} pushed (callX m d) (callH m d))
        ∗ held (SparseCore.T d) (All \ Ours) (V4 m d)) := by
  rw [held_sub_split (SparseCore.T d) (show Ours ⊆ All by decide), held_ours]
  have e3 : V5 m d (ref main_v3) = callX m d := Function.update_of_ne (show ref main_v3 ≠ ref main_v4 by decide) _ _
  have e1 : V5 m d (ref main_v1) = callH m d := Function.update_of_ne (show ref main_v1 ≠ ref main_v4 by decide) _ _
  have e4 : V5 m d (ref main_v4) = pushed (callX m d) (callH m d) := Function.update_self _ _ _
  rw [e3, e1, e4]
  refine congrArg (fun R => iprop(((xLoc d ↦{fullShare} callX m d) ∗ (hLoc d ↦{fullShare} callH m d)
    ∗ oLoc d ↦{fullShare} pushed (callX m d) (callH m d)) ∗ R)) ?_
  exact bigSep_congr fun b hb => by
    rw [V5, Function.update_of_ne]
    rintro rfl
    exact absurd hb (by decide)

/-- The arguments and the result. -/
abbrev Kept : Finset (DevRef τ sig) := {ref main_arg0, ref main_arg1, ref main_v6}

/-- The two arguments and the result, as places of the memory. -/
abbrev aLoc (d : Dev nD) : Loc nD τ sig := (SparseCore.T d).loc main_arg0
abbrev bufLoc (d : Dev nD) : Loc nD τ sig := (SparseCore.T d).loc main_arg1
abbrev rLoc (d : Dev nD) : Loc nD τ sig := (SparseCore.T d).loc main_v6

/-- The program's result. -/
def outv (d : Dev nD) : Buf (Elt F) (rLoc d) := V7 m d (ref main_v6)

/-- What the program leaves: the arguments at their launch contents, the result at its value. -/
abbrev FIN (d : Dev nD) : sProp 𝕄 :=
  iprop((aLoc d ↦{fullShare} m (aLoc d)) ∗ (bufLoc d ↦{fullShare} m (bufLoc d)) ∗ rLoc d ↦{fullShare} outv m d)

/-- At the end: the arguments and the result, and the others. -/
theorem held_end (d : Dev nD) : (held (SparseCore.T d) All (V7 m d) : sProp 𝕄)
    = iprop(FIN m d ∗ held (SparseCore.T d) (All \ Kept) (V7 m d)) := by
  rw [held_sub_split (SparseCore.T d) (show Kept ⊆ All by decide)]
  congr 1
  unfold held Kept
  rw [SparseCore.bigSep_insert' (by decide), SparseCore.bigSep_insert' (by decide), bigSep_singleton,
    V7_arg m d _ (.inl rfl), V7_arg m d _ (.inr rfl)]
  rfl

/-! ## The program -/

/-- What the launch hands over, at the contents the call finds. -/
abbrev PM : (K (F := F)).Pay (nD := nD) (Val := Elt F) (Name := ℕ) (U := UU) := P (callX m) (callH m) (callZ m)

set_option maxRecDepth 16384 in
/-- The program on a device: the four operations, the call from the three arrays, the two operations. -/
theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := All) sub0 (V := V0 m d)) $$ [Hb Hheld]
  · isplitl [Hb] <;> iassumption
  iintro ⟨Hb, Hheld⟩
  rw [wp_ret]; imodintro
  iapply (wp_hlo_within 𝒱 (SparseCore.T d) none Set.univ (op := op1) (S := All) sub1 (V := V1 m d)) $$ [Hb Hheld]
  · isplitl [Hb]
    · iexact Hb
    iexact Hheld
  iintro ⟨Hb, Hheld⟩
  rw [wp_ret]; imodintro
  iapply (wp_hlo_within 𝒱 (SparseCore.T d) none Set.univ (op := op2) (S := All) sub2 (V := V2 m d)) $$ [Hb Hheld]
  · isplitl [Hb]
    · iexact Hb
    iexact Hheld
  iintro ⟨Hb, Hheld⟩
  rw [wp_ret]; imodintro
  iapply (wp_hlo_within 𝒱 (SparseCore.T d) none Set.univ (op := op3) (S := All) sub3 (V := V3 m d)) $$ [Hb Hheld]
  · isplitl [Hb]
    · iexact Hb
    iexact Hheld
  iintro ⟨Hb, Hheld⟩
  rw [wp_ret]; imodintro
  ihave H := (Entails.of_eq (show held (SparseCore.T d) All ((op3 (F := F)).result (V3 m d)) = _ from held_before m d)) $$ Hheld
  icases H with ⟨Harr, Hheld⟩
  ihave H := (arrays_split (callX m d) (callH m d) (callZ m d) d) $$ Harr
  icases H with ⟨Htodo, Hx', Hh'⟩
  iapply ((K (F := F)).wp_run (D (F := F)) 𝒱 (EH := EH) (P := PM m) κ d 0) $$ [Hst Htodo Hx' Hh' Hb Hheld Hts]
  isplitr; · iexact Hctx
  isplitl [Hst]; · iexact Hst
  isplitl [Htodo]
  · rw [st0_eq]; iexact Htodo
  iintro ⟨Hst, Hdn⟩
  ihave Hdone := (Entails.of_eq (dn0_eq (callX m) (callH m) (callZ m) d)) $$ Hdn
  ihave Harr := (arrays_join (callX m d) (callH m d) d) $$ [Hdone Hx' Hh']
  · isplitl [Hdone]; · iexact Hdone
    isplitl [Hx'] <;> iassumption
  ihave Hheld := (Entails.of_eq (held_after m d).symm) $$ [Harr Hheld]
  · isplitl [Harr] <;> iassumption
  iapply (wp_hlo_within 𝒱 (SparseCore.T d) none Set.univ (op := op5) (S := All) sub5 (V := V5 m d)) $$ [Hb Hheld]
  · isplitl [Hb]
    · iexact Hb
    iexact Hheld
  iintro ⟨Hb, Hheld⟩
  rw [wp_ret]; imodintro
  iapply (wp_hlo_within 𝒱 (SparseCore.T d) none Set.univ (op := op6) (S := All) sub6 (V := V6 m d)) $$ [Hb Hheld]
  · isplitl [Hb]
    · iexact Hb
    iexact Hheld
  iintro ⟨Hb, Hheld⟩
  rw [wp_ret]; imodintro; imodintro
  ihave H := (Entails.of_eq (show held (SparseCore.T d) All ((op6 (F := F)).result (V6 m d)) = _ from held_end m d)) $$ Hheld
  icases H with ⟨HF, -⟩
  isplitl [Hst]; · iexact Hst
  isplitl [HF]; · iexact HF
  isplitl [Hb] <;> iassumption

/-- What is read of the final state. -/
def fq (d : Dev nD) (s' : Phys nD τ sig (Elt F)) : Prop :=
  s'.mem.mem (rLoc d) = outv m d ∧ s'.mem.mem (aLoc d) = m (aLoc d) ∧ s'.mem.mem (bufLoc d) = m (bufLoc d)

/-- An array held whole is in the state what it is held at. -/
theorem state_reads (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  iexact HSI

/-- From what the program leaves, the memory's contents are read. -/
theorem hfin (d : Dev nD) (s' : Phys nD τ sig (Elt F)) : iprop(FIN m d ∗ SI s') ⊢ (⌜fq m d s'⌝ : sProp 𝕄) := by
  iintro ⟨⟨Ha, Hb, Hr⟩, HSI⟩
  ihave H := (state_reads s' (aLoc d) _) $$ [HSI Ha]
  · isplitl [HSI] <;> iassumption
  icases H with ⟨%ha, HSI⟩
  ihave H := (state_reads s' (bufLoc d) _) $$ [HSI Hb]
  · isplitl [HSI] <;> iassumption
  icases H with ⟨%hb, HSI⟩
  ihave H := (state_reads s' (rLoc d) _) $$ [HSI Hr]
  · isplitl [HSI] <;> iassumption
  icases H with ⟨%hr, -⟩
  ipureintro; exact ⟨hr, ha, hb⟩

/-- How every run ends: the result at its value, the arguments unchanged, every counter at zero. -/
def Ends : PUnit × MemSt nD τ sig (Elt F) → Prop := fun r =>
  (∀ c : Dev nD, r.2.mem (rLoc c) = outv m c ∧ r.2.mem (aLoc c) = m (aLoc c) ∧ r.2.mem (bufLoc c) = m (bufLoc c)) ∧ r.2.sem = fun _ => 0

/-- Every run of the program, over any float values, ends so. -/
theorem run_main [∀ e, Nonempty (Elt F e)] :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (callX m) (callH m) (callZ m))
    (fun q _ => match q with | 0 => SparseCore.Cfg.VecSplit.of_plain (vecSplit (callX m) (callH m) (callZ m)))
    m ρ main (fun _ => iprop(emp)) (FIN m) (u₀ (F := F)) (sep_elim_left.trans (hu₀ (callX m) (callH m) (callZ m))) (hmain m ρ) (fq m) (hfin m) (Ends m)
    (fun _ h hz => ⟨h, hz⟩)

end Cert.Proof.Push

end
-- ==== Proof.Reference.lean ====
/-
  The value in plain words, and that both programs compute it: the reference's slices, concatenation and scatter, and the kernel's reshapes and
  transposes around its call.
-/
module

public import proofs.«01_k».proof.Proof.Main
public import proofs.«01_k».proof.Proof.Gen.ReferenceIdeal.Run
public import Idealize.ShloMosaic.Lib.Routing.OpsSet
public import Idealize.ShloMosaic.Lib.ValueLayout

@[expose] public section

noncomputable section

namespace Cert.Proof.Push

open Idealize.ShloMosaic Idealize.ShloMosaic.ValueIdx

/-- The history after one push, in plain words: slot 0 of a row's channel is the new activation, slot `k + 1` is what slot `k` held. -/
def push {α : Type} (x : Cert.KernelIdeal.S512x8192.Idx → α) (s : Cert.KernelIdeal.S512x8192x8.Idx → α) : Cert.KernelIdeal.S512x8192x8.Idx → α := fun i =>
  if (i 2).val = 0 then x (ix2 (i 0) (i 1)) else s (ix3 (i 0) (i 1) ⟨(i 2).val - 1, by have : (i 2).val < 8 := (i 2).isLt; omega⟩)

/-! ## The reference -/

section Ref

open Cert.ReferenceIdeal Cert.ReferenceIdeal.Gen

/-- An update lands at the row and channel it stands at and at the slot the index word names, here 0. -/
theorem lands (idx : IVec S1 32) (h0 : ∀ a, (idx a).toInt = 0) (k : S512x8192.Idx) (i : S512x8192x8.Idx) :
    scatter_S512x8192x8_S1_S512x8192_01_2_2_0.resultIdx? k idx = some i
      ↔ (k 0).val = (i 0).val ∧ (k 1).val = (i 1).val ∧ (i 2).val = 0 := by
  rw [Routing.resultIdx?_eq_some]
  have s0 : scatter_S512x8192x8_S1_S512x8192_01_2_2_0.start k idx 0 = 0 := dif_neg (by decide)
  have s1 : scatter_S512x8192x8_S1_S512x8192_01_2_2_0.start k idx 1 = 0 := dif_neg (by decide)
  have s2 : scatter_S512x8192x8_S1_S512x8192_01_2_2_0.start k idx 2 = 0 := (dif_pos (by decide)).trans (h0 _)
  have w0 : scatter_S512x8192x8_S1_S512x8192_01_2_2_0.window k 0 = (k 0).val := rfl
  have w1 : scatter_S512x8192x8_S1_S512x8192_01_2_2_0.window k 1 = (k 1).val := rfl
  have w2 : scatter_S512x8192x8_S1_S512x8192_01_2_2_0.window k 2 = 0 := rfl
  constructor
  · intro h
    have h0' := h 0
    have h1' := h 1
    have h2' := h 2
    rw [s0, w0] at h0'
    rw [s1, w1] at h1'
    rw [s2, w2] at h2'
    omega
  · rintro ⟨e0, e1, e2⟩ a
    match a with
    | ⟨0, _⟩ => exact (congrArg₂ (fun (p : Int) (q : Nat) => p + (q : Int)) s0 w0).trans (by rw [e0]; exact zero_add _)
    | ⟨1, _⟩ => exact (congrArg₂ (fun (p : Int) (q : Nat) => p + (q : Int)) s1 w1).trans (by rw [e1]; exact zero_add _)
    | ⟨2, _⟩ => exact (congrArg₂ (fun (p : Int) (q : Nat) => p + (q : Int)) s2 w2).trans (by show (0 : Int) + ((0 : Nat) : Int) = ((i 2).val : Int); rw [e2]; rfl)

/-- The reference's roll by one followed by its write of slot 0 is the push. -/
theorem ref_value {α : Type} (x : S512x8192.Idx → α) (s : S512x8192x8.Idx → α) :
    Host.scatter scatter_S512x8192x8_S1_S512x8192_01_2_2_0 (fun _ b => b)
        (concatenate S512x8192x8 2 [⟨S512x8192x1, extractStridedSlice S512x8192x1 ![0, 0, 7] s slices_S512x8192x8_S512x8192x1_0_0_7⟩,
          ⟨S512x8192x7, extractStridedSlice S512x8192x7 ![0, 0, 0] s slices_S512x8192x8_S512x8192x7_0_0_0⟩] concatenates_S512x8192x1_S512x8192x7_S512x8192x8_d2)
        (broadcastInDim S1 ![] bcast_S_S1 (constantI S_ 32 0#32)) x
      = push x s := by
  funext i
  have h0 : ∀ a, ((broadcastInDim S1 ![] bcast_S_S1 (constantI S_ 32 0#32) : IVec S1 32) a).toInt = 0 := fun _ => rfl
  by_cases hz : (i 2).val = 0
  · refine (Routing.scatter_set_hit _ _ _ _ _ (x (ix2 (i 0) (i 1))) (fun k hk => ?_) (ix2 (i 0) (i 1)) ((lands _ h0 _ _).2 ⟨rfl, rfl, hz⟩)).trans
      (if_pos hz).symm
    have hk' := (lands _ h0 _ _).1 hk
    rw [eq_ix2 k]
    exact congrArg x (congrArg₂ ix2 (Fin.ext hk'.1) (Fin.ext hk'.2.1))
  · have hi : (i 2).val < 8 := (i 2).isLt
    refine (Routing.scatter_set_miss _ _ _ _ _ (fun k hk => hz ((lands _ h0 _ _).1 hk).2.2)).trans ?_
    refine (concatenate_pair_apply_right (t := S512x8192x8) (s₁ := S512x8192x1) (s₂ := S512x8192x7) 2 _ _ _ _ rfl rfl (ix3 (i 0) (i 1) (⟨(i 2).val - 1, by omega⟩ : Fin 7)) (fun b hb => ?_) ?_).trans ?_
    · match b, hb with
      | ⟨0, _⟩, _ => rfl
      | ⟨1, _⟩, _ => rfl
      | ⟨2, _⟩, hb => exact absurd rfl hb
    · show (i 2).val - 1 + 1 = (i 2).val
      omega
    · refine (extractStridedSlice_apply _ s _ _ (ix3 (i 0) (i 1) ⟨(i 2).val - 1, by omega⟩) (fun a => ?_)).trans (if_neg hz).symm
      match a with
      | ⟨0, _⟩ => exact (zero_add _).symm
      | ⟨1, _⟩ => exact (zero_add _).symm
      | ⟨2, _⟩ => exact (zero_add _).symm

end Ref

/-! ## The kernel -/

section Ker

open Cert.KernelIdeal Cert.KernelIdeal.Gen

variable {α : Type}

/-- The activations as the call finds them. -/
def actsIn (x : S512x8192.Idx → α) : S64x64x8x128.Idx → α :=
  transpose S64x64x8x128 [0, 2, 1, 3] (shapeCast S64x8x64x128 x shapeCasts_S512x8192_S64x8x64x128) transposes_S64x8x64x128_S64x64x8x128_0_2_1_3

/-- The history as the call finds it. -/
def histIn (s : S512x8192x8.Idx → α) : S512x64x8x128.Idx → α :=
  transpose S512x64x8x128 [0, 1, 3, 2] (shapeCast S512x64x128x8 s shapeCasts_S512x8192x8_S512x64x128x8) transposes_S512x64x128x8_S512x64x8x128_0_1_3_2

/-- The call's output as the program returns it. -/
def histOut (z : S512x64x8x128.Idx → α) : S512x8192x8.Idx → α :=
  shapeCast S512x8192x8 (transpose S512x64x128x8 [0, 1, 3, 2] z transposes_S512x64x8x128_S512x64x128x8_0_1_3_2) shapeCasts_S512x64x128x8_S512x8192x8

/-- Row `8 p + q`, channel `128 g + l` of the activations is lane `l` of row `q` of the block of rows `p` and channels `g`. -/
theorem actsIn_apply (x : S512x8192.Idx → α) (p : Fin 64) (g : Fin 64) (q : Fin 8) (l : Fin 128) (b : Fin 512) (n : Fin 8192)
    (hb : b.val = 8 * p.val + q.val) (hn : n.val = 128 * g.val + l.val) : actsIn x (ix4 p g q l) = x (ix2 b n) := by
  refine (transpose_apply _ _ _ _ (ix4 p q g l) (fun a => ?_)).trans ?_
  · match a with
    | ⟨0, _⟩ => rfl
    | ⟨1, _⟩ => rfl
    | ⟨2, _⟩ => rfl
    | ⟨3, _⟩ => rfl
  · refine shapeCast_apply _ _ _ (ix2 b n) ?_
    rw [Shape.rowMajor_val_two, Shape.rowMajor_val_four]
    show b.val * 8192 + n.val = ((p.val * 8 + q.val) * 64 + g.val) * 128 + l.val
    omega

/-- Slot `k` of channel `128 g + l` of a row is lane `l` of slot `k` of that row's channels `g`. -/
theorem histIn_apply (s : S512x8192x8.Idx → α) (b : Fin 512) (g : Fin 64) (k : Fin 8) (l : Fin 128) (n : Fin 8192)
    (hn : n.val = 128 * g.val + l.val) : histIn s (ix4 b g k l) = s (ix3 b n k) := by
  refine (transpose_apply _ _ _ _ (ix4 b g l k) (fun a => ?_)).trans ?_
  · match a with
    | ⟨0, _⟩ => rfl
    | ⟨1, _⟩ => rfl
    | ⟨2, _⟩ => rfl
    | ⟨3, _⟩ => rfl
  · refine shapeCast_apply _ _ _ (ix3 b n k) ?_
    rw [Shape.rowMajor_val_three, Shape.rowMajor_val_four]
    show (b.val * 8192 + n.val) * 8 + k.val = ((b.val * 64 + g.val) * 128 + l.val) * 8 + k.val
    omega

/-- The way back is the same correspondence read the other way. -/
theorem histOut_apply (z : S512x64x8x128.Idx → α) (b : Fin 512) (g : Fin 64) (k : Fin 8) (l : Fin 128) (n : Fin 8192)
    (hn : n.val = 128 * g.val + l.val) : histOut z (ix3 b n k) = z (ix4 b g k l) := by
  refine (shapeCast_apply _ _ _ (ix4 b g l k) ?_).trans (transpose_apply _ _ _ _ (ix4 b g k l) (fun a => ?_))
  · rw [Shape.rowMajor_val_three, Shape.rowMajor_val_four]
    show ((b.val * 64 + g.val) * 128 + l.val) * 8 + k.val = (b.val * 8192 + n.val) * 8 + k.val
    omega
  · match a with
    | ⟨0, _⟩ => rfl
    | ⟨1, _⟩ => rfl
    | ⟨2, _⟩ => rfl
    | ⟨3, _⟩ => rfl

/-- What the call leaves, brought back to the result's layout, is the push. -/
theorem out_value (x : S512x8192.Idx → α) (s : S512x8192x8.Idx → α) : histOut (pushed (actsIn x) (histIn s)) = push x s := by
  funext i
  have hb : (i 0).val < 512 := (i 0).isLt
  have hn : (i 1).val < 8192 := (i 1).isLt
  have hk : (i 2).val < 8 := (i 2).isLt
  have e1 : (i 1).val = 128 * ((i 1).val / 128) + (i 1).val % 128 := by omega
  rw [eq_ix3 i]
  refine (histOut_apply _ (i 0) ⟨(i 1).val / 128, by omega⟩ (i 2) ⟨(i 1).val % 128, by omega⟩ (i 1) e1).trans ?_
  by_cases hz : (i 2).val = 0
  · refine (if_pos hz).trans ((actsIn_apply x _ _ _ _ (i 0) (i 1) ?_ e1).trans (if_pos hz).symm)
    show (i 0).val = 8 * ((i 0).val / 8) + (i 0).val % 8
    omega
  · exact (if_neg hz).trans ((histIn_apply s (i 0) _ _ _ (i 1) e1).trans (if_neg hz).symm)

variable {F : FTy → Type} [FloatOps F] (m : (ℓ : Loc nD τ sig) → Buf (Elt F) ℓ)

/-- The call finds the history reshaped and transposed. -/
theorem callH_eq (d : Dev nD) : callH m d = histIn (m (bufLoc d)) := by
  unfold callH V4 V3 V2 V1
  rw [(op3 (F := F)).result_of_not_mem _ (show ref main_v1 ∉ ({ref main_v3} : Finset (DevRef τ sig)) by decide),
    (op2 (F := F)).result_of_not_mem _ (show ref main_v1 ∉ ({ref main_v2} : Finset (DevRef τ sig)) by decide)]
  refine (StableHlo.unary_result _ _ _ _ _ _).trans ?_
  exact congrArg (fun y => transpose S512x64x8x128 [0, 1, 3, 2] y transposes_S512x64x128x8_S512x64x8x128_0_1_3_2) (StableHlo.reshape_result _ _ _ _ _ _ _)

/-- The call finds the activations reshaped and transposed. -/
theorem callX_eq (d : Dev nD) : callX m d = actsIn (m (aLoc d)) := by
  unfold callX V4 V3
  refine (StableHlo.unary_result _ _ _ _ _ _).trans ?_
  refine congrArg (fun y => transpose S64x64x8x128 [0, 2, 1, 3] y transposes_S64x8x64x128_S64x64x8x128_0_2_1_3) ((StableHlo.reshape_result _ _ _ _ _ _ _).trans ?_)
  have e : V2 m d (ref main_arg0) = m (aLoc d) := by
    unfold V2 V1
    rw [(op1 (F := F)).result_of_not_mem _ (show ref main_arg0 ∉ ({ref main_v1} : Finset (DevRef τ sig)) by decide),
      (op0 (F := F)).result_of_not_mem _ (show ref main_arg0 ∉ ({ref main_v0} : Finset (DevRef τ sig)) by decide)]
    rfl
  exact congrArg (fun y => shapeCast S64x8x64x128 y shapeCasts_S512x8192_S64x8x64x128) e

/-- The program's result is the push of its activations onto its history. -/
theorem outv_eq (d : Dev nD) : outv m d = push (m (aLoc d)) (m (bufLoc d)) := by
  refine Eq.trans ?_ (out_value (m (aLoc d)) (m (bufLoc d)))
  rw [← callX_eq m d, ← callH_eq m d]
  unfold outv V7 V6
  refine (StableHlo.reshape_result _ _ _ _ _ _ _).trans ?_
  refine congrArg (fun y => shapeCast S512x8192x8 y shapeCasts_S512x64x128x8_S512x8192x8) ((StableHlo.unary_result _ _ _ _ _ _).trans ?_)
  exact congrArg (fun y => transpose S512x64x128x8 [0, 1, 3, 2] y transposes_S512x64x8x128_S512x64x128x8_0_1_3_2) (Function.update_self _ _ _)

end Ker

end Cert.Proof.Push

end
-- ==== Proof.lean ====
/-
  Everything claimed of the kernel: it and the reference leave their arguments and end with every counter at zero, and both end with the history after
  one push.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's frame: every execution ends with both arguments as they were and every counter at zero. -/
theorem frame_kernel : Cert.quiescent_Kernel := fun m ρ _ =>
  (θ_run Cert.KernelIdeal.defs _ _).mono (fun _ h => ⟨fun c => (h.1 c).2, h.2⟩) (Push.run_main (F := Bits) m ρ)

/-- The same over the ideal values. -/
theorem frame_ideal : Cert.quiescent_KernelIdeal := fun m ρ _ =>
  (θ_run Cert.KernelIdeal.defs _ _).mono (fun _ h => ⟨fun c => (h.1 c).2, h.2⟩) (Push.run_main (F := Ideal) m ρ)

/-- The reference's frame: it leaves its arguments and has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference, run on the same arguments, both end with the history after one push. -/
theorem same_value : Cert.algebraic_KernelIdeal_ReferenceIdeal := fun m ρ m' ρ' _ hargs =>
  ⟨fun c => Push.push (m (Push.aLoc c)) (m (Push.bufLoc c)),
    (θ_run Cert.KernelIdeal.defs _ _).mono (fun _ h c => ⟨(h.1 c).1.trans (Push.outv_eq m c), (h.1 c).2⟩) (Push.run_main (F := Ideal) m ρ),
    (θ_run Cert.ReferenceIdeal.defs _ _).mono (fun _ h c => ⟨(h c).1.trans ((Push.ref_value _ _).trans
      (congrArg₂ Push.push (hargs c).1 (hargs c).2)), (h c).2⟩) (Cert.ReferenceIdeal.Value.run (F := Ideal) m' ρ')⟩

/-- Everything claimed of the kernel. -/
theorem claim : Cert.Claim := ⟨Cert.Kernel.Gen.facts, Cert.KernelIdeal.Gen.facts, Cert.ReferenceIdeal.Gen.facts,
  frame_kernel, frame_ideal, frame_reference, trivial, same_value⟩

end Cert.Proof

end
